-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S4096x64 : Shape := ⟨2, ![4096, 64]⟩
abbrev S32x128x64 : Shape := ⟨3, ![32, 128, 64]⟩
abbrev S32x8x128 : Shape := ⟨3, ![32, 8, 128]⟩
abbrev S32 : Shape := ⟨1, ![32]⟩
abbrev S_ : Shape := ⟨0, ![]⟩
abbrev S128x2048 : Shape := ⟨2, ![128, 2048]⟩
abbrev S128x64 : Shape := ⟨2, ![128, 64]⟩
abbrev S1x128x64 : Shape := ⟨3, ![1, 128, 64]⟩
abbrev S1x128x2048 : Shape := ⟨3, ![1, 128, 2048]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x32x8x128 : Shape := ⟨4, ![1, 32, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S128x4096, .bf16⟩
  | .hbm, ⟨1, _⟩ => ⟨S4096x2048, .bf16⟩
  | .hbm, ⟨2, _⟩ => ⟨S4096x64, .f32⟩
  | .local _ .vmem, ⟨0, _⟩ => ⟨S128x4096, .bf16⟩
  | .local _ .vmem, ⟨1, _⟩ => ⟨S4096x2048, .bf16⟩
  | .local _ .vmem, ⟨2, _⟩ => ⟨S4096x64, .f32⟩
  | .local _ .vmem, ⟨3, _⟩ => ⟨S32x128x64, .f32⟩
  | .local _ .vmem, ⟨4, _⟩ => ⟨S32x128x64, .f32⟩
  | .local _ .vmem, ⟨5, _⟩ => ⟨S32x8x128, .f32⟩
  | _, _ => ⟨S128x4096, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  v5.toNat
def k0_dev2 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v6 : BitVec 32 := Scalar.addi v2 c2_i32
  let c32_i32_3 : BitVec 32 := 32#32
  let v7 : BitVec 32 := Scalar.remsi v6 c32_i32_3
  v7.toNat
def k0_dev3 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v8 : BitVec 32 := Scalar.addi v2 c3_i32
  let c32_i32_5 : BitVec 32 := 32#32
  let v9 : BitVec 32 := Scalar.remsi v8 c32_i32_5
  v9.toNat
def k0_dev4 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v10 : BitVec 32 := Scalar.addi v2 c4_i32
  let c32_i32_7 : BitVec 32 := 32#32
  let v11 : BitVec 32 := Scalar.remsi v10 c32_i32_7
  v11.toNat
def k0_dev5 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v12 : BitVec 32 := Scalar.addi v2 c5_i32
  let c32_i32_9 : BitVec 32 := 32#32
  let v13 : BitVec 32 := Scalar.remsi v12 c32_i32_9
  v13.toNat
def k0_dev6 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v14 : BitVec 32 := Scalar.addi v2 c6_i32
  let c32_i32_11 : BitVec 32 := 32#32
  let v15 : BitVec 32 := Scalar.remsi v14 c32_i32_11
  v15.toNat
def k0_dev7 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v16 : BitVec 32 := Scalar.addi v2 c7_i32
  let c32_i32_13 : BitVec 32 := 32#32
  let v17 : BitVec 32 := Scalar.remsi v16 c32_i32_13
  v17.toNat
def k0_dev8 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v18 : BitVec 32 := Scalar.addi v2 c8_i32
  let c32_i32_15 : BitVec 32 := 32#32
  let v19 : BitVec 32 := Scalar.remsi v18 c32_i32_15
  v19.toNat
def k0_dev9 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v20 : BitVec 32 := Scalar.addi v2 c9_i32
  let c32_i32_17 : BitVec 32 := 32#32
  let v21 : BitVec 32 := Scalar.remsi v20 c32_i32_17
  v21.toNat
def k0_dev10 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v22 : BitVec 32 := Scalar.addi v2 c10_i32
  let c32_i32_19 : BitVec 32 := 32#32
  let v23 : BitVec 32 := Scalar.remsi v22 c32_i32_19
  v23.toNat
def k0_dev11 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v24 : BitVec 32 := Scalar.addi v2 c11_i32
  let c32_i32_21 : BitVec 32 := 32#32
  let v25 : BitVec 32 := Scalar.remsi v24 c32_i32_21
  v25.toNat
def k0_dev12 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v26 : BitVec 32 := Scalar.addi v2 c12_i32
  let c32_i32_23 : BitVec 32 := 32#32
  let v27 : BitVec 32 := Scalar.remsi v26 c32_i32_23
  v27.toNat
def k0_dev13 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v28 : BitVec 32 := Scalar.addi v2 c13_i32
  let c32_i32_25 : BitVec 32 := 32#32
  let v29 : BitVec 32 := Scalar.remsi v28 c32_i32_25
  v29.toNat
def k0_dev14 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v30 : BitVec 32 := Scalar.addi v2 c14_i32
  let c32_i32_27 : BitVec 32 := 32#32
  let v31 : BitVec 32 := Scalar.remsi v30 c32_i32_27
  v31.toNat
def k0_dev15 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v32 : BitVec 32 := Scalar.addi v2 c15_i32
  let c32_i32_29 : BitVec 32 := 32#32
  let v33 : BitVec 32 := Scalar.remsi v32 c32_i32_29
  v33.toNat
def k0_dev16 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v34 : BitVec 32 := Scalar.addi v2 c16_i32
  let c32_i32_31 : BitVec 32 := 32#32
  let v35 : BitVec 32 := Scalar.remsi v34 c32_i32_31
  v35.toNat
def k0_dev17 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v36 : BitVec 32 := Scalar.addi v2 c17_i32
  let c32_i32_33 : BitVec 32 := 32#32
  let v37 : BitVec 32 := Scalar.remsi v36 c32_i32_33
  v37.toNat
def k0_dev18 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v38 : BitVec 32 := Scalar.addi v2 c18_i32
  let c32_i32_35 : BitVec 32 := 32#32
  let v39 : BitVec 32 := Scalar.remsi v38 c32_i32_35
  v39.toNat
def k0_dev19 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v40 : BitVec 32 := Scalar.addi v2 c19_i32
  let c32_i32_37 : BitVec 32 := 32#32
  let v41 : BitVec 32 := Scalar.remsi v40 c32_i32_37
  v41.toNat
def k0_dev20 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v42 : BitVec 32 := Scalar.addi v2 c20_i32
  let c32_i32_39 : BitVec 32 := 32#32
  let v43 : BitVec 32 := Scalar.remsi v42 c32_i32_39
  v43.toNat
def k0_dev21 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v44 : BitVec 32 := Scalar.addi v2 c21_i32
  let c32_i32_41 : BitVec 32 := 32#32
  let v45 : BitVec 32 := Scalar.remsi v44 c32_i32_41
  v45.toNat
def k0_dev22 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v46 : BitVec 32 := Scalar.addi v2 c22_i32
  let c32_i32_43 : BitVec 32 := 32#32
  let v47 : BitVec 32 := Scalar.remsi v46 c32_i32_43
  v47.toNat
def k0_dev23 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v48 : BitVec 32 := Scalar.addi v2 c23_i32
  let c32_i32_45 : BitVec 32 := 32#32
  let v49 : BitVec 32 := Scalar.remsi v48 c32_i32_45
  v49.toNat
def k0_dev24 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v50 : BitVec 32 := Scalar.addi v2 c24_i32
  let c32_i32_47 : BitVec 32 := 32#32
  let v51 : BitVec 32 := Scalar.remsi v50 c32_i32_47
  v51.toNat
def k0_dev25 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v52 : BitVec 32 := Scalar.addi v2 c25_i32
  let c32_i32_49 : BitVec 32 := 32#32
  let v53 : BitVec 32 := Scalar.remsi v52 c32_i32_49
  v53.toNat
def k0_dev26 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v54 : BitVec 32 := Scalar.addi v2 c26_i32
  let c32_i32_51 : BitVec 32 := 32#32
  let v55 : BitVec 32 := Scalar.remsi v54 c32_i32_51
  v55.toNat
def k0_dev27 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v56 : BitVec 32 := Scalar.addi v2 c27_i32
  let c32_i32_53 : BitVec 32 := 32#32
  let v57 : BitVec 32 := Scalar.remsi v56 c32_i32_53
  v57.toNat
def k0_dev28 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v58 : BitVec 32 := Scalar.addi v2 c28_i32
  let c32_i32_55 : BitVec 32 := 32#32
  let v59 : BitVec 32 := Scalar.remsi v58 c32_i32_55
  v59.toNat
def k0_dev29 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v60 : BitVec 32 := Scalar.addi v2 c29_i32
  let c32_i32_57 : BitVec 32 := 32#32
  let v61 : BitVec 32 := Scalar.remsi v60 c32_i32_57
  v61.toNat
def k0_dev30 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v62 : BitVec 32 := Scalar.addi v2 c30_i32
  let c32_i32_59 : BitVec 32 := 32#32
  let v63 : BitVec 32 := Scalar.remsi v62 c32_i32_59
  v63.toNat
def k0_dev31 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v64 : BitVec 32 := Scalar.addi v2 c31_i32
  let c32_i32_61 : BitVec 32 := 32#32
  let v65 : BitVec 32 := Scalar.remsi v64 c32_i32_61
  v65.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v209 : Index := Scalar.indexCast v2
  let c0_137 : Index := 0#32
  let c0_138 : Index := 0#32
  ![v209.toNat, 0, 0]
def k0_off2 (d0 : Dev nD) (c1_i32_142 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v215 : BitVec 32 := Scalar.addi v2 c1_i32_142
  let c32_i32_143 : BitVec 32 := 32#32
  let v216 : BitVec 32 := Scalar.remsi v215 c32_i32_143
  let c0_i32_148 : BitVec 32 := 0#32
  let c0_i32_149 : BitVec 32 := 0#32
  ![v216.toNat, 0, 0]
def k0_dev32 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_142 : BitVec 32 := 1#32
  let v215 : BitVec 32 := Scalar.addi v2 c1_i32_142
  let c32_i32_143 : BitVec 32 := 32#32
  let v216 : BitVec 32 := Scalar.remsi v215 c32_i32_143
  v216.toNat
def k0_dev33 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_142 : BitVec 32 := 1#32
  let v215 : BitVec 32 := Scalar.addi v2 c1_i32_142
  let c32_i32_143 : BitVec 32 := 32#32
  let v216 : BitVec 32 := Scalar.remsi v215 c32_i32_143
  v216.toNat
def k0_dev34 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_158 : BitVec 32 := 2#32
  let v233 : BitVec 32 := Scalar.addi v2 c2_i32_158
  let c32_i32_159 : BitVec 32 := 32#32
  let v234 : BitVec 32 := Scalar.remsi v233 c32_i32_159
  v234.toNat
def k0_dev35 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_158 : BitVec 32 := 2#32
  let v233 : BitVec 32 := Scalar.addi v2 c2_i32_158
  let c32_i32_159 : BitVec 32 := 32#32
  let v234 : BitVec 32 := Scalar.remsi v233 c32_i32_159
  v234.toNat
def k0_dev36 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_175 : BitVec 32 := 3#32
  let v251 : BitVec 32 := Scalar.addi v2 c3_i32_175
  let c32_i32_176 : BitVec 32 := 32#32
  let v252 : BitVec 32 := Scalar.remsi v251 c32_i32_176
  v252.toNat
def k0_dev37 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_175 : BitVec 32 := 3#32
  let v251 : BitVec 32 := Scalar.addi v2 c3_i32_175
  let c32_i32_176 : BitVec 32 := 32#32
  let v252 : BitVec 32 := Scalar.remsi v251 c32_i32_176
  v252.toNat
def k0_dev38 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_192 : BitVec 32 := 4#32
  let v269 : BitVec 32 := Scalar.addi v2 c4_i32_192
  let c32_i32_193 : BitVec 32 := 32#32
  let v270 : BitVec 32 := Scalar.remsi v269 c32_i32_193
  v270.toNat
def k0_dev39 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_192 : BitVec 32 := 4#32
  let v269 : BitVec 32 := Scalar.addi v2 c4_i32_192
  let c32_i32_193 : BitVec 32 := 32#32
  let v270 : BitVec 32 := Scalar.remsi v269 c32_i32_193
  v270.toNat
def k0_dev40 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_209 : BitVec 32 := 5#32
  let v287 : BitVec 32 := Scalar.addi v2 c5_i32_209
  let c32_i32_210 : BitVec 32 := 32#32
  let v288 : BitVec 32 := Scalar.remsi v287 c32_i32_210
  v288.toNat
def k0_dev41 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_209 : BitVec 32 := 5#32
  let v287 : BitVec 32 := Scalar.addi v2 c5_i32_209
  let c32_i32_210 : BitVec 32 := 32#32
  let v288 : BitVec 32 := Scalar.remsi v287 c32_i32_210
  v288.toNat
def k0_dev42 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_226 : BitVec 32 := 6#32
  let v305 : BitVec 32 := Scalar.addi v2 c6_i32_226
  let c32_i32_227 : BitVec 32 := 32#32
  let v306 : BitVec 32 := Scalar.remsi v305 c32_i32_227
  v306.toNat
def k0_dev43 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_226 : BitVec 32 := 6#32
  let v305 : BitVec 32 := Scalar.addi v2 c6_i32_226
  let c32_i32_227 : BitVec 32 := 32#32
  let v306 : BitVec 32 := Scalar.remsi v305 c32_i32_227
  v306.toNat
def k0_dev44 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_243 : BitVec 32 := 7#32
  let v323 : BitVec 32 := Scalar.addi v2 c7_i32_243
  let c32_i32_244 : BitVec 32 := 32#32
  let v324 : BitVec 32 := Scalar.remsi v323 c32_i32_244
  v324.toNat
def k0_dev45 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_243 : BitVec 32 := 7#32
  let v323 : BitVec 32 := Scalar.addi v2 c7_i32_243
  let c32_i32_244 : BitVec 32 := 32#32
  let v324 : BitVec 32 := Scalar.remsi v323 c32_i32_244
  v324.toNat
def k0_dev46 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_260 : BitVec 32 := 8#32
  let v341 : BitVec 32 := Scalar.addi v2 c8_i32_260
  let c32_i32_261 : BitVec 32 := 32#32
  let v342 : BitVec 32 := Scalar.remsi v341 c32_i32_261
  v342.toNat
def k0_dev47 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_260 : BitVec 32 := 8#32
  let v341 : BitVec 32 := Scalar.addi v2 c8_i32_260
  let c32_i32_261 : BitVec 32 := 32#32
  let v342 : BitVec 32 := Scalar.remsi v341 c32_i32_261
  v342.toNat
def k0_dev48 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_277 : BitVec 32 := 9#32
  let v359 : BitVec 32 := Scalar.addi v2 c9_i32_277
  let c32_i32_278 : BitVec 32 := 32#32
  let v360 : BitVec 32 := Scalar.remsi v359 c32_i32_278
  v360.toNat
def k0_dev49 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_277 : BitVec 32 := 9#32
  let v359 : BitVec 32 := Scalar.addi v2 c9_i32_277
  let c32_i32_278 : BitVec 32 := 32#32
  let v360 : BitVec 32 := Scalar.remsi v359 c32_i32_278
  v360.toNat
def k0_dev50 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_294 : BitVec 32 := 10#32
  let v377 : BitVec 32 := Scalar.addi v2 c10_i32_294
  let c32_i32_295 : BitVec 32 := 32#32
  let v378 : BitVec 32 := Scalar.remsi v377 c32_i32_295
  v378.toNat
def k0_dev51 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_294 : BitVec 32 := 10#32
  let v377 : BitVec 32 := Scalar.addi v2 c10_i32_294
  let c32_i32_295 : BitVec 32 := 32#32
  let v378 : BitVec 32 := Scalar.remsi v377 c32_i32_295
  v378.toNat
def k0_dev52 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_311 : BitVec 32 := 11#32
  let v395 : BitVec 32 := Scalar.addi v2 c11_i32_311
  let c32_i32_312 : BitVec 32 := 32#32
  let v396 : BitVec 32 := Scalar.remsi v395 c32_i32_312
  v396.toNat
def k0_dev53 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_311 : BitVec 32 := 11#32
  let v395 : BitVec 32 := Scalar.addi v2 c11_i32_311
  let c32_i32_312 : BitVec 32 := 32#32
  let v396 : BitVec 32 := Scalar.remsi v395 c32_i32_312
  v396.toNat
def k0_dev54 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_328 : BitVec 32 := 12#32
  let v413 : BitVec 32 := Scalar.addi v2 c12_i32_328
  let c32_i32_329 : BitVec 32 := 32#32
  let v414 : BitVec 32 := Scalar.remsi v413 c32_i32_329
  v414.toNat
def k0_dev55 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_328 : BitVec 32 := 12#32
  let v413 : BitVec 32 := Scalar.addi v2 c12_i32_328
  let c32_i32_329 : BitVec 32 := 32#32
  let v414 : BitVec 32 := Scalar.remsi v413 c32_i32_329
  v414.toNat
def k0_dev56 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_345 : BitVec 32 := 13#32
  let v431 : BitVec 32 := Scalar.addi v2 c13_i32_345
  let c32_i32_346 : BitVec 32 := 32#32
  let v432 : BitVec 32 := Scalar.remsi v431 c32_i32_346
  v432.toNat
def k0_dev57 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_345 : BitVec 32 := 13#32
  let v431 : BitVec 32 := Scalar.addi v2 c13_i32_345
  let c32_i32_346 : BitVec 32 := 32#32
  let v432 : BitVec 32 := Scalar.remsi v431 c32_i32_346
  v432.toNat
def k0_dev58 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_362 : BitVec 32 := 14#32
  let v449 : BitVec 32 := Scalar.addi v2 c14_i32_362
  let c32_i32_363 : BitVec 32 := 32#32
  let v450 : BitVec 32 := Scalar.remsi v449 c32_i32_363
  v450.toNat
def k0_dev59 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_362 : BitVec 32 := 14#32
  let v449 : BitVec 32 := Scalar.addi v2 c14_i32_362
  let c32_i32_363 : BitVec 32 := 32#32
  let v450 : BitVec 32 := Scalar.remsi v449 c32_i32_363
  v450.toNat
def k0_dev60 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_379 : BitVec 32 := 15#32
  let v467 : BitVec 32 := Scalar.addi v2 c15_i32_379
  let c32_i32_380 : BitVec 32 := 32#32
  let v468 : BitVec 32 := Scalar.remsi v467 c32_i32_380
  v468.toNat
def k0_dev61 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_379 : BitVec 32 := 15#32
  let v467 : BitVec 32 := Scalar.addi v2 c15_i32_379
  let c32_i32_380 : BitVec 32 := 32#32
  let v468 : BitVec 32 := Scalar.remsi v467 c32_i32_380
  v468.toNat
def k0_dev62 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_396 : BitVec 32 := 16#32
  let v485 : BitVec 32 := Scalar.addi v2 c16_i32_396
  let c32_i32_397 : BitVec 32 := 32#32
  let v486 : BitVec 32 := Scalar.remsi v485 c32_i32_397
  v486.toNat
def k0_dev63 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_396 : BitVec 32 := 16#32
  let v485 : BitVec 32 := Scalar.addi v2 c16_i32_396
  let c32_i32_397 : BitVec 32 := 32#32
  let v486 : BitVec 32 := Scalar.remsi v485 c32_i32_397
  v486.toNat
def k0_dev64 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_413 : BitVec 32 := 17#32
  let v503 : BitVec 32 := Scalar.addi v2 c17_i32_413
  let c32_i32_414 : BitVec 32 := 32#32
  let v504 : BitVec 32 := Scalar.remsi v503 c32_i32_414
  v504.toNat
def k0_dev65 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_413 : BitVec 32 := 17#32
  let v503 : BitVec 32 := Scalar.addi v2 c17_i32_413
  let c32_i32_414 : BitVec 32 := 32#32
  let v504 : BitVec 32 := Scalar.remsi v503 c32_i32_414
  v504.toNat
def k0_dev66 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_430 : BitVec 32 := 18#32
  let v521 : BitVec 32 := Scalar.addi v2 c18_i32_430
  let c32_i32_431 : BitVec 32 := 32#32
  let v522 : BitVec 32 := Scalar.remsi v521 c32_i32_431
  v522.toNat
def k0_dev67 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_430 : BitVec 32 := 18#32
  let v521 : BitVec 32 := Scalar.addi v2 c18_i32_430
  let c32_i32_431 : BitVec 32 := 32#32
  let v522 : BitVec 32 := Scalar.remsi v521 c32_i32_431
  v522.toNat
def k0_dev68 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_447 : BitVec 32 := 19#32
  let v539 : BitVec 32 := Scalar.addi v2 c19_i32_447
  let c32_i32_448 : BitVec 32 := 32#32
  let v540 : BitVec 32 := Scalar.remsi v539 c32_i32_448
  v540.toNat
def k0_dev69 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_447 : BitVec 32 := 19#32
  let v539 : BitVec 32 := Scalar.addi v2 c19_i32_447
  let c32_i32_448 : BitVec 32 := 32#32
  let v540 : BitVec 32 := Scalar.remsi v539 c32_i32_448
  v540.toNat
def k0_dev70 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_464 : BitVec 32 := 20#32
  let v557 : BitVec 32 := Scalar.addi v2 c20_i32_464
  let c32_i32_465 : BitVec 32 := 32#32
  let v558 : BitVec 32 := Scalar.remsi v557 c32_i32_465
  v558.toNat
def k0_dev71 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_464 : BitVec 32 := 20#32
  let v557 : BitVec 32 := Scalar.addi v2 c20_i32_464
  let c32_i32_465 : BitVec 32 := 32#32
  let v558 : BitVec 32 := Scalar.remsi v557 c32_i32_465
  v558.toNat
def k0_dev72 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_481 : BitVec 32 := 21#32
  let v575 : BitVec 32 := Scalar.addi v2 c21_i32_481
  let c32_i32_482 : BitVec 32 := 32#32
  let v576 : BitVec 32 := Scalar.remsi v575 c32_i32_482
  v576.toNat
def k0_dev73 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_481 : BitVec 32 := 21#32
  let v575 : BitVec 32 := Scalar.addi v2 c21_i32_481
  let c32_i32_482 : BitVec 32 := 32#32
  let v576 : BitVec 32 := Scalar.remsi v575 c32_i32_482
  v576.toNat
def k0_dev74 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_498 : BitVec 32 := 22#32
  let v593 : BitVec 32 := Scalar.addi v2 c22_i32_498
  let c32_i32_499 : BitVec 32 := 32#32
  let v594 : BitVec 32 := Scalar.remsi v593 c32_i32_499
  v594.toNat
def k0_dev75 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_498 : BitVec 32 := 22#32
  let v593 : BitVec 32 := Scalar.addi v2 c22_i32_498
  let c32_i32_499 : BitVec 32 := 32#32
  let v594 : BitVec 32 := Scalar.remsi v593 c32_i32_499
  v594.toNat
def k0_dev76 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_515 : BitVec 32 := 23#32
  let v611 : BitVec 32 := Scalar.addi v2 c23_i32_515
  let c32_i32_516 : BitVec 32 := 32#32
  let v612 : BitVec 32 := Scalar.remsi v611 c32_i32_516
  v612.toNat
def k0_dev77 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_515 : BitVec 32 := 23#32
  let v611 : BitVec 32 := Scalar.addi v2 c23_i32_515
  let c32_i32_516 : BitVec 32 := 32#32
  let v612 : BitVec 32 := Scalar.remsi v611 c32_i32_516
  v612.toNat
def k0_dev78 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_532 : BitVec 32 := 24#32
  let v629 : BitVec 32 := Scalar.addi v2 c24_i32_532
  let c32_i32_533 : BitVec 32 := 32#32
  let v630 : BitVec 32 := Scalar.remsi v629 c32_i32_533
  v630.toNat
def k0_dev79 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_532 : BitVec 32 := 24#32
  let v629 : BitVec 32 := Scalar.addi v2 c24_i32_532
  let c32_i32_533 : BitVec 32 := 32#32
  let v630 : BitVec 32 := Scalar.remsi v629 c32_i32_533
  v630.toNat
def k0_dev80 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_549 : BitVec 32 := 25#32
  let v647 : BitVec 32 := Scalar.addi v2 c25_i32_549
  let c32_i32_550 : BitVec 32 := 32#32
  let v648 : BitVec 32 := Scalar.remsi v647 c32_i32_550
  v648.toNat
def k0_dev81 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_549 : BitVec 32 := 25#32
  let v647 : BitVec 32 := Scalar.addi v2 c25_i32_549
  let c32_i32_550 : BitVec 32 := 32#32
  let v648 : BitVec 32 := Scalar.remsi v647 c32_i32_550
  v648.toNat
def k0_dev82 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_566 : BitVec 32 := 26#32
  let v665 : BitVec 32 := Scalar.addi v2 c26_i32_566
  let c32_i32_567 : BitVec 32 := 32#32
  let v666 : BitVec 32 := Scalar.remsi v665 c32_i32_567
  v666.toNat
def k0_dev83 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_566 : BitVec 32 := 26#32
  let v665 : BitVec 32 := Scalar.addi v2 c26_i32_566
  let c32_i32_567 : BitVec 32 := 32#32
  let v666 : BitVec 32 := Scalar.remsi v665 c32_i32_567
  v666.toNat
def k0_dev84 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_583 : BitVec 32 := 27#32
  let v683 : BitVec 32 := Scalar.addi v2 c27_i32_583
  let c32_i32_584 : BitVec 32 := 32#32
  let v684 : BitVec 32 := Scalar.remsi v683 c32_i32_584
  v684.toNat
def k0_dev85 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_583 : BitVec 32 := 27#32
  let v683 : BitVec 32 := Scalar.addi v2 c27_i32_583
  let c32_i32_584 : BitVec 32 := 32#32
  let v684 : BitVec 32 := Scalar.remsi v683 c32_i32_584
  v684.toNat
def k0_dev86 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_600 : BitVec 32 := 28#32
  let v701 : BitVec 32 := Scalar.addi v2 c28_i32_600
  let c32_i32_601 : BitVec 32 := 32#32
  let v702 : BitVec 32 := Scalar.remsi v701 c32_i32_601
  v702.toNat
def k0_dev87 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_600 : BitVec 32 := 28#32
  let v701 : BitVec 32 := Scalar.addi v2 c28_i32_600
  let c32_i32_601 : BitVec 32 := 32#32
  let v702 : BitVec 32 := Scalar.remsi v701 c32_i32_601
  v702.toNat
def k0_dev88 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_617 : BitVec 32 := 29#32
  let v719 : BitVec 32 := Scalar.addi v2 c29_i32_617
  let c32_i32_618 : BitVec 32 := 32#32
  let v720 : BitVec 32 := Scalar.remsi v719 c32_i32_618
  v720.toNat
def k0_dev89 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_617 : BitVec 32 := 29#32
  let v719 : BitVec 32 := Scalar.addi v2 c29_i32_617
  let c32_i32_618 : BitVec 32 := 32#32
  let v720 : BitVec 32 := Scalar.remsi v719 c32_i32_618
  v720.toNat
def k0_dev90 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_634 : BitVec 32 := 30#32
  let v737 : BitVec 32 := Scalar.addi v2 c30_i32_634
  let c32_i32_635 : BitVec 32 := 32#32
  let v738 : BitVec 32 := Scalar.remsi v737 c32_i32_635
  v738.toNat
def k0_dev91 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_634 : BitVec 32 := 30#32
  let v737 : BitVec 32 := Scalar.addi v2 c30_i32_634
  let c32_i32_635 : BitVec 32 := 32#32
  let v738 : BitVec 32 := Scalar.remsi v737 c32_i32_635
  v738.toNat
def k0_dev92 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_651 : BitVec 32 := 31#32
  let v755 : BitVec 32 := Scalar.addi v2 c31_i32_651
  let c32_i32_652 : BitVec 32 := 32#32
  let v756 : BitVec 32 := Scalar.remsi v755 c32_i32_652
  v756.toNat
def k0_dev93 (d0 : Dev nD) : Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_651 : BitVec 32 := 31#32
  let v755 : BitVec 32 := Scalar.addi v2 c31_i32_651
  let c32_i32_652 : BitVec 32 := 32#32
  let v756 : BitVec 32 := Scalar.remsi v755 c32_i32_652
  v756.toNat
def k0_off3 (d0 : Dev nD) (c0_i32_1138 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1151 : BitVec 32 := Scalar.subi v2 c0_i32_1138
  let c32_i32_1139 : BitVec 32 := 32#32
  let v1152 : BitVec 32 := Scalar.addi v1151 c32_i32_1139
  let c32_i32_1140 : BitVec 32 := 32#32
  let v1153 : BitVec 32 := Scalar.remsi v1152 c32_i32_1140
  let c128_i32 : BitVec 32 := 128#32
  let v1165 : BitVec 32 := Scalar.muli v1153 c128_i32
  let v1166 : Index := Scalar.indexCast v1165
  let c0_1146 : Index := 0#32
  ![v1166.toNat, 0]
abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Prog.lean ====
/-
# The kernel body as loops

The generated body lists every step of every peer. Here the same body is written with the steps of one phase as a
loop over the distance `d` to the peer, and the two are equal by unfolding. Everything about the body is then
proved once per phase, at a symbolic device and a symbolic distance.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.RowsProof

open Cert.KernelIdeal Cert.KernelIdeal.Gen
open Idealize.ShloMosaic Idealize.ShloMosaic.TcCoe
open Idealize.SL Idealize.SL.Sem

variable {F : FTy → Type} [FloatOps F]

/-! ## Distances and peers -/

/-- The distances to the other devices, in the order in which the kernel visits them. -/
abbrev far : List (Fin 32) :=
  [1, 2, 3, 4, 5, 6, 7, 8, 9, 10, 11, 12, 13, 14, 15, 16, 17, 18, 19, 20, 21, 22, 23, 24, 25, 26, 27, 28, 29, 30, 31]

/-- All the slots of a scratch buffer. -/
abbrev slots : List (Fin 32) := 0 :: far

/-- The device `d` after `c`, as the kernel computes its number. -/
def peerN (c : Dev nD) (d : Fin 32) : ℕ :=
  (Scalar.remsi (Scalar.addi (Scalar.remsi (Scalar.divsi (Dev.word c) 1#32) 32#32) (BitVec.ofNat 32 d.val)) 32#32).toNat

theorem peerN_eq : ∀ (c : Dev nD) (d : Fin 32), peerN c d = (c.val + d.val) % 32 := by decide +kernel

theorem peerN_lt (c : Dev nD) (d : Fin 32) : peerN c d < nD := by
  rw [peerN_eq]; exact Nat.mod_lt _ (by decide)

/-! ## The memrefs -/

abbrev xM : Memref sig .tc .vmem S128x4096 .bf16 := Memref.whole cc0_stg0_0
abbrev wM : Memref sig .tc .vmem S4096x2048 .bf16 := Memref.whole cc0_stg1_0
abbrev oM : Memref sig .tc .vmem S4096x64 .f32 := Memref.whole cc0_stg2_0
abbrev yM : Memref sig .tc .vmem S32x128x64 .f32 := Memref.whole cc0_scratch0
abbrev sM : Memref sig .tc .vmem S32x128x64 .f32 := Memref.whole cc0_scratch1
abbrev aM : Memref sig .tc .vmem S32x8x128 .f32 := Memref.whole cc0_scratch2

theorem inbY (p : Fin 32) : ∀ a, (![p.val, 0, 0] : Fin 3 → ℕ) a + S1x128x64.size a ≤ S32x128x64.size a := by
  revert p; decide +kernel
theorem inbA (p : Fin 32) : ∀ a, (![p.val, 0, 0] : Fin 3 → ℕ) a + S1x8x128.size a ≤ S32x8x128.size a := by
  revert p; decide +kernel
theorem inbS (p : Fin 32) : ∀ a, (![p.val] : Fin 1 → ℕ) a + S1.size a ≤ S32.size a := by
  revert p; decide +kernel
theorem inbOff2 (c : Dev nD) (d : Fin 32) : ∀ a, (k0_off2 c (BitVec.ofNat 32 d.val)) a + S1x128x64.size a ≤ S32x128x64.size a := by
  revert c d; decide +kernel
theorem slicesW (p : Fin 32) : S128x2048.Slices ![0, 64 * p.val] S128x64 := by
  revert p; decide +kernel

/-- Slot `p` of a scratch buffer of 128×64 blocks, as the rectangle a load or store names. -/
abbrev rY (p : Fin 32) : Rect S32x128x64 := Rect.unit (s := S32x128x64) ![p.val, 0, 0] S1x128x64.size (inbY p)
/-- Slot `p` of the buffer of maxima. -/
abbrev rA (p : Fin 32) : Rect S32x8x128 := Rect.unit (s := S32x8x128) ![p.val, 0, 0] S1x8x128.size (inbA p)
/-- The slot of the staged product meant for the device at distance `d`. -/
abbrev rP (c : Dev nD) (d : Fin 32) : Rect S32x128x64 :=
  Rect.unit (s := S32x128x64) (k0_off2 c (BitVec.ofNat 32 d.val)) S1x128x64.size (inbOff2 c d)
/-- The rows of the output that the block in slot `d` fills. -/
abbrev rO (c : Dev nD) (d : Fin 32) : Rect S4096x64 :=
  Rect.unit (s := S4096x64) (k0_off3 c (BitVec.ofNat 32 d.val)) S128x64.size (k0_off3_inb c d)

/-- The staged block for the device at distance `d`, as the copies see it. -/
abbrev ySl (c : Dev nD) (d : Fin 32) : Memref sig .tc .vmem S128x64 .f32 :=
  (yM.slice (rP c d) (fun _ => rfl)).squeeze S128x64 squeezes_S1x128x64_S128x64
/-- Landing slot `d`. -/
abbrev sSl (d : Fin 32) : Memref sig .tc .vmem S128x64 .f32 :=
  (sM.slice (rY d) (fun _ => rfl)).squeeze S128x64 squeezes_S1x128x64_S128x64
/-- Landing slot `d` of the maxima. -/
abbrev aSl (d : Fin 32) : Memref sig .tc .vmem S8x128 .f32 :=
  (aM.slice (rA d) (fun _ => rfl)).squeeze S8x128 squeezes_S1x8x128_S8x128

/-- Entry `d` of an array of DMA semaphores. -/
abbrev semAt (A : DmaSems sig S32) (d : Fin 32) : DmaSem sig :=
  ((A.slice (Rect.unit (s := S32) ![d.val] S1.size (inbS d))).squeeze S_ squeezes_S1_S_).sem

abbrev barS : Sem sig := (SemArray.scalar (sig.barrier 0 rfl) : Sems sig S_).sem
abbrev dsS (d : Fin 32) : DmaSem sig := semAt cc0_scratch3 d
abbrev drS (d : Fin 32) : DmaSem sig := semAt cc0_scratch4 d
abbrev asS (d : Fin 32) : DmaSem sig := semAt cc0_scratch5 d
abbrev arS (d : Fin 32) : DmaSem sig := semAt cc0_scratch6 d

/-! ## The values -/

/-- Columns `[64 p, 64 p + 64)` of the product, as one slot. -/
def colsOf (y : FVec F S128x2048 .f32) (p : Fin 32) : FVec F S1x128x64 .f32 :=
  shapeCast S1x128x64 (extractStridedSlice S128x64 ![0, 64 * p.val] y (slicesW p)) shapeCasts_S128x64_S1x128x64

/-! ## The loops -/

abbrev KProg (F : FTy → Type) [FloatOps F] (α : Type) : Type 1 := Prog (TpuEff nD τ sig (Elt F) Λ₀ .tc) α

/-- Run `f` at each entry of a list, in order. -/
def each (f : Fin 32 → KProg F PUnit) : List (Fin 32) → KProg F PUnit
  | [] => pure ⟨⟩
  | d :: ds => do
    f d
    each f ds

def sigStep (c : Dev nD) (d : Fin 32) : KProg F PUnit :=
  semSignalWord (⟨peerN c d, peerN_lt c d⟩ : Dev nD) barS 1#32

def putStep (y : FVec F S128x2048 .f32) (p : Fin 32) : KProg F PUnit := do
  let _ : Vec F S1x128x64 .f32 ← Prog.lift (.load yM (rY p).toLoadRect (View.loadsAt_vmem h_S1x128x64))
  Prog.lift (.store yM (rY p) (colsOf y p) Finset.univ (View.stores_vmem_bits_univ h_S1x128x64 rfl) (.inl rfl))

def copyStep (c : Dev nD) (d : Fin 32) : KProg F PUnit := do
  Prog.lift (.enqueueDma (ySl c d) (.remote (Dev.tc (⟨peerN c d, peerN_lt c d⟩ : Dev nD)) (sSl d) (.dma (dsS d))) (.dma (drS d)) ((View.wordExact_bits rfl).reshape _ _) ((View.wordExact_bits rfl).reshape _ _) ⟨⟨rfl, Or.inl rfl⟩, trivial⟩)
  Prog.lift (.enqueueDma (aSl 0) (.remote (Dev.tc (⟨peerN c d, peerN_lt c d⟩ : Dev nD)) (aSl d) (.dma (asS d))) (.dma (arS d)) ((View.wordExact_bits rfl).reshape _ _) ((View.wordExact_bits rfl).reshape _ _) ⟨⟨rfl, Or.inl rfl⟩, trivial⟩)

def arStep (d : Fin 32) : KProg F PUnit :=
  Prog.lift (.waitDma2 (arS d) (aSl 0) (aSl d) ((View.wordExact_bits rfl).reshape _ _) ((View.wordExact_bits rfl).reshape _ _))
def drStep (c : Dev nD) (d : Fin 32) : KProg F PUnit :=
  Prog.lift (.waitDma2 (drS d) (ySl c d) (sSl d) ((View.wordExact_bits rfl).reshape _ _) ((View.wordExact_bits rfl).reshape _ _))
def dsStep (c : Dev nD) (d : Fin 32) : KProg F PUnit :=
  Prog.lift (.waitDma2 (dsS d) (sSl d) (ySl c d) ((View.wordExact_bits rfl).reshape _ _) ((View.wordExact_bits rfl).reshape _ _))
def asStep (d : Fin 32) : KProg F PUnit :=
  Prog.lift (.waitDma2 (asS d) (aSl d) (aSl 0) ((View.wordExact_bits rfl).reshape _ _) ((View.wordExact_bits rfl).reshape _ _))

def outStep (c : Dev nD) (sc : F .f32) (d : Fin 32) : KProg F PUnit := do
  let b : Vec F S1x128x64 .f32 ← Prog.lift (.load sM (rY d).toLoadRect (View.loadsAt_vmem h_S1x128x64))
  let _ : Vec F S128x64 .f32 ← Prog.lift (.load oM (rO c d).toLoadRect (View.loadsAt_vmem h_S128x64))
  Prog.lift (.store oM (rO c d) (k0_pay40 sc b) Finset.univ (View.stores_vmem_bits_univ h_S128x64 rfl) (.inl rfl))

/-- The whole body. -/
def prog : KProg F PUnit := do
  let c : Dev nD ← Prog.lift .deviceId
  each (sigStep c) far
  semWaitWord barS 31#32
  let x : Vec F S128x4096 .bf16 ← Prog.lift (.load xM (Rect.unit (s := S128x4096) ![0, 0] S128x4096.size inb_S128x4096_S128x4096_0_0).toLoadRect (View.loadsAt_vmem h_S128x4096))
  let w : Vec F S4096x2048 .bf16 ← Prog.lift (.load wM (Rect.unit (s := S4096x2048) ![0, 0] S4096x2048.size inb_S4096x2048_S4096x2048_0_0).toLoadRect (View.loadsAt_vmem h_S4096x2048))
  each (putStep (k0_pay1 x w)) slots
  let _ : Vec F S1x8x128 .f32 ← Prog.lift (.load aM (rA 0).toLoadRect (View.loadsAt_vmem h_S1x8x128))
  Prog.lift (.store aM (rA 0) (k0_pay36 (k0_pay1 x w)) Finset.univ (View.stores_vmem_bits_univ h_S1x8x128 rfl) (.inl rfl))
  let b : Vec F S1x128x64 .f32 ← Prog.lift (.load yM (Rect.unit (s := S32x128x64) (k0_off1 c) S1x128x64.size (k0_off1_inb c)).toLoadRect (View.loadsAt_vmem h_S1x128x64))
  let _ : Vec F S1x128x64 .f32 ← Prog.lift (.load sM (rY 0).toLoadRect (View.loadsAt_vmem h_S1x128x64))
  Prog.lift (.store sM (rY 0) (k0_pay37 b) Finset.univ (View.stores_vmem_bits_univ h_S1x128x64 rfl) (.inl rfl))
  each (copyStep c) far
  each arStep far
  each (drStep c) far
  let a : Vec F S32x8x128 .f32 ← Prog.lift (.load aM (Rect.unit (s := S32x8x128) ![0, 0, 0] S32x8x128.size inb_S32x8x128_S32x8x128_0_0_0).toLoadRect (View.loadsAt_vmem h_S32x8x128))
  each (outStep c (k0_pay38 a)) slots
  each (dsStep c) far
  each asStep far

end Cert.RowsProof

end
-- ==== Proof.Contents.lean ====
/-
# What the scratch buffers hold, slot by slot

The two buffers of 128×64 blocks and the buffer of maxima are stacks of 32 slots. `stackY B` and `stackA B` are the
contents with block `B p` in slot `p`. A store into a slot, a load of one and a copy from one slot to another are
stated as equations between such stacks on the elements of one slot.
-/
module

public import proofs.«01_k».proof.Proof.Prog

@[expose] public section

noncomputable section

namespace Cert.RowsProof

open Cert.KernelIdeal Cert.KernelIdeal.Gen
open Idealize.ShloMosaic Idealize.ShloMosaic.TcCoe
open Idealize.SL Idealize.SL.Sem

variable {F : FTy → Type} [FloatOps F]

/-! ## Devices at a distance -/

/-- The device `d` after `c`. -/
abbrev peer (c : Dev nD) (d : Fin 32) : Dev nD := ⟨peerN c d, peerN_lt c d⟩
/-- The device `d` before `c`. -/
def back (c : Dev nD) (d : Fin 32) : Dev nD := ⟨(c.val + 32 - d.val) % 32, Nat.mod_lt _ (by decide)⟩
/-- The distance back. -/
def opp (d : Fin 32) : Fin 32 := ⟨(32 - d.val) % 32, Nat.mod_lt _ (by decide)⟩
/-- A device's number as a slot. -/
abbrev slotOf (c : Dev nD) : Fin 32 := ⟨c.val, c.isLt⟩

theorem peer_val (c : Dev nD) (d : Fin 32) : (peer c d).val = (c.val + d.val) % 32 := peerN_eq c d

theorem peer_back (c : Dev nD) (d : Fin 32) : peer (back c d) d = c := by
  have hc : c.val < 32 := c.isLt
  have := d.isLt
  refine Fin.ext ?_; rw [peer_val]; simp only [back]; omega
theorem back_peer (c : Dev nD) (d : Fin 32) : back (peer c d) d = c := by
  have hc : c.val < 32 := c.isLt
  have := d.isLt
  refine Fin.ext ?_; simp only [back]; rw [peerN_eq]; omega
theorem peer_opp (c : Dev nD) (d : Fin 32) : peer (peer c d) (opp d) = c := by
  have hc : c.val < 32 := c.isLt
  have := d.isLt
  refine Fin.ext ?_; rw [peer_val, peer_val]; simp only [opp]; omega
theorem opp_opp (d : Fin 32) : opp (opp d) = d := by revert d; decide
theorem opp_ne (d : Fin 32) (h : d ≠ 0) : opp d ≠ 0 := by revert d; decide
theorem opp_zero : opp 0 = 0 := by decide
theorem peer_zero (c : Dev nD) : peer c 0 = c := by
  have hc : c.val < 32 := c.isLt
  refine Fin.ext ?_; rw [peer_val]; show (c.val + 0) % 32 = _; omega
theorem back_zero (c : Dev nD) : back c 0 = c := by
  have hc : c.val < 32 := c.isLt
  refine Fin.ext ?_; simp only [back]; show (c.val + 32 - 0) % 32 = _; omega

/-- The devices after `c`, by distance. -/
def after (d : Fin 32) : Dev nD ≃ Dev nD := ⟨fun c => peer c d, fun c => back c d, fun c => back_peer c d, fun c => peer_back c d⟩
/-- The slots of the other devices, by distance from `c`. -/
def around (c : Dev nD) : Fin 32 ≃ Fin 32 where
  toFun d := slotOf (peer c d)
  invFun p := ⟨(p.val + 32 - c.val) % 32, Nat.mod_lt _ (by decide)⟩
  left_inv d := by
    have hc : c.val < 32 := c.isLt
    have := d.isLt
    refine Fin.ext ?_; simp only [slotOf]; rw [peerN_eq]; first | omega | (simp only []; omega)
  right_inv p := by
    have hc : c.val < 32 := c.isLt
    have := p.isLt
    refine Fin.ext ?_; simp only [slotOf]; rw [peerN_eq]; first | omega | (simp only []; omega)
/-- The same slots reading backwards. -/
def aback (c : Dev nD) : Fin 32 ≃ Fin 32 where
  toFun d := slotOf (back c d)
  invFun p := ⟨(c.val + 32 - p.val) % 32, Nat.mod_lt _ (by decide)⟩
  left_inv d := by
    have hc : c.val < 32 := c.isLt
    have := d.isLt
    refine Fin.ext ?_; simp only [slotOf, back]; omega
  right_inv p := by
    have hc : c.val < 32 := c.isLt
    have := p.isLt
    refine Fin.ext ?_; simp only [slotOf, back]; omega
def oppE : Fin 32 ≃ Fin 32 := ⟨opp, opp, opp_opp, opp_opp⟩

/-! ## The slots as rectangles -/

theorem rP_off (c : Dev nD) (d : Fin 32) : k0_off2 c (BitVec.ofNat 32 d.val) = ![(slotOf (peer c d)).val, 0, 0] := by
  rw [show (slotOf (peer c d)).val = (c.val + d.val) % 32 from peer_val c d]
  revert c d; decide +kernel
theorem rP_eq (c : Dev nD) (d : Fin 32) : rP c d = rY (slotOf (peer c d)) := by
  unfold rP rY
  congr 1
theorem rP_emb (c : Dev nD) (d : Fin 32) (z : S1x128x64.Idx) : (rP c d).emb z = (rY (slotOf (peer c d))).emb z := by
  funext a
  refine Fin.ext ?_
  show (k0_off2 c (BitVec.ofNat 32 d.val)) a + 1 * (z a).val = (![(slotOf (peer c d)).val, 0, 0] : Fin 3 → ℕ) a + 1 * (z a).val
  rw [rP_off]
theorem rSelf_eq (c : Dev nD) :
    Rect.unit (s := S32x128x64) (k0_off1 c) S1x128x64.size (k0_off1_inb c) = rY (slotOf c) := by
  unfold rY
  congr 1
  exact k0_off1_eq c

theorem rY_disj (p q : Fin 32) (h : p ≠ q) : Disjoint (rY p).set (rY q).set :=
  Rect.unit_disjoint (0 : Fin 3) (by
    have : p.val ≠ q.val := fun e => h (Fin.ext e)
    show p.val + 1 ≤ q.val ∨ q.val + 1 ≤ p.val; omega)
theorem rA_disj (p q : Fin 32) (h : p ≠ q) : Disjoint (rA p).set (rA q).set :=
  Rect.unit_disjoint (0 : Fin 3) (by
    have : p.val ≠ q.val := fun e => h (Fin.ext e)
    show p.val + 1 ≤ q.val ∨ q.val + 1 ≤ p.val; omega)

theorem mem_rY (i : S32x128x64.Idx) : i ∈ (rY (i 0)).set := by
  rw [Rect.mem_set_unit]
  intro a
  fin_cases a
  · exact ⟨le_refl _, Nat.lt_succ_self _⟩
  · exact ⟨Nat.zero_le _, by have := (i 1).isLt; show (i 1).val < 0 + 128; exact (Nat.zero_add 128).symm ▸ this⟩
  · exact ⟨Nat.zero_le _, by have := (i 2).isLt; show (i 2).val < 0 + 64; exact (Nat.zero_add 64).symm ▸ this⟩
theorem mem_rA (i : S32x8x128.Idx) : i ∈ (rA (i 0)).set := by
  rw [Rect.mem_set_unit]
  intro a
  fin_cases a
  · exact ⟨le_refl _, Nat.lt_succ_self _⟩
  · exact ⟨Nat.zero_le _, by have := (i 1).isLt; show (i 1).val < 0 + 8; exact (Nat.zero_add 8).symm ▸ this⟩
  · exact ⟨Nat.zero_le _, by have := (i 2).isLt; show (i 2).val < 0 + 128; exact (Nat.zero_add 128).symm ▸ this⟩

theorem rY_cover : Finset.univ.biUnion (fun p => (rY p).set) = Finset.univ :=
  Finset.eq_univ_of_forall fun i => Finset.mem_biUnion.mpr ⟨i 0, Finset.mem_univ _, mem_rY i⟩
theorem rA_cover : Finset.univ.biUnion (fun p => (rA p).set) = Finset.univ :=
  Finset.eq_univ_of_forall fun i => Finset.mem_biUnion.mpr ⟨i 0, Finset.mem_univ _, mem_rA i⟩

/-! ## Stacks of blocks -/

/-- The index inside a slot. -/
def inY (i : S32x128x64.Idx) : S1x128x64.Idx
  | ⟨0, _⟩ => ⟨0, Nat.one_pos⟩
  | ⟨1, _⟩ => i 1
  | ⟨2, _⟩ => i 2
def inA (i : S32x8x128.Idx) : S1x8x128.Idx
  | ⟨0, _⟩ => ⟨0, Nat.one_pos⟩
  | ⟨1, _⟩ => i 1
  | ⟨2, _⟩ => i 2

/-- The stack of the blocks `B`. -/
def stackY {α : Type} (B : Fin 32 → S1x128x64.Idx → α) : S32x128x64.Idx → α := fun i => B (i 0) (inY i)
def stackA {α : Type} (B : Fin 32 → S1x8x128.Idx → α) : S32x8x128.Idx → α := fun i => B (i 0) (inA i)

theorem rY_emb_0 (p : Fin 32) (x : S1x128x64.Idx) : ((rY p).emb x) 0 = p := by
  have h0 := (x 0).isLt
  change (x 0).val < 1 at h0
  refine Fin.ext ?_
  show p.val + 1 * (x 0).val = p.val
  omega
theorem rA_emb_0 (p : Fin 32) (x : S1x8x128.Idx) : ((rA p).emb x) 0 = p := by
  have h0 := (x 0).isLt
  change (x 0).val < 1 at h0
  refine Fin.ext ?_
  show p.val + 1 * (x 0).val = p.val
  omega
theorem inY_emb (p : Fin 32) (x : S1x128x64.Idx) : inY ((rY p).emb x) = x := by
  funext a
  fin_cases a
  · have h0 := (x 0).isLt
    change (x 0).val < 1 at h0
    exact Fin.ext (show 0 = (x 0).val by omega)
  · exact Fin.ext (show 0 + 1 * (x 1).val = (x 1).val by omega)
  · exact Fin.ext (show 0 + 1 * (x 2).val = (x 2).val by omega)
theorem inA_emb (p : Fin 32) (x : S1x8x128.Idx) : inA ((rA p).emb x) = x := by
  funext a
  fin_cases a
  · have h0 := (x 0).isLt
    change (x 0).val < 1 at h0
    exact Fin.ext (show 0 = (x 0).val by omega)
  · exact Fin.ext (show 0 + 1 * (x 1).val = (x 1).val by omega)
  · exact Fin.ext (show 0 + 1 * (x 2).val = (x 2).val by omega)

theorem stackY_emb {α : Type} (B : Fin 32 → S1x128x64.Idx → α) (p : Fin 32) (x : S1x128x64.Idx) :
    stackY B ((rY p).emb x) = B p x := by
  unfold stackY; rw [inY_emb]; exact congrArg (fun q => B q x) (rY_emb_0 p x)
theorem stackA_emb {α : Type} (B : Fin 32 → S1x8x128.Idx → α) (p : Fin 32) (x : S1x8x128.Idx) :
    stackA B ((rA p).emb x) = B p x := by
  unfold stackA; rw [inA_emb]; exact congrArg (fun q => B q x) (rA_emb_0 p x)

/-! ## Loads, stores and copies between stacks -/

section Values
variable (B B' : Fin 32 → S1x128x64.Idx → Elt F .f32) (A A' : Fin 32 → S1x8x128.Idx → Elt F .f32)

theorem read_yY (p : Fin 32) : yM.view.readAt (Elt F) (rY p).toLoadRect (stackY B) = B p := by
  funext x; exact stackY_emb B p x
theorem read_sY (p : Fin 32) : sM.view.readAt (Elt F) (rY p).toLoadRect (stackY B) = B p := by
  funext x; exact stackY_emb B p x

/-- A store of block `p` makes slot `p` that of the stack. -/
theorem write_yY (p : Fin 32) (f : yM.view.ty.Contents (Elt F)) (i : S32x128x64.Idx) (hi : i ∈ (yM.access (rY p)).set) :
    (yM.access (rY p)).write (Elt F) f (B p) Finset.univ i = stackY B i := by
  obtain ⟨x, -, rfl⟩ := Finset.mem_map.mp hi
  rw [View.write_emb_of_mem _ _ (Finset.mem_univ _)]
  exact (stackY_emb B p x).symm
theorem write_sY (p : Fin 32) (f : sM.view.ty.Contents (Elt F)) (i : S32x128x64.Idx) (hi : i ∈ (sM.access (rY p)).set) :
    (sM.access (rY p)).write (Elt F) f (B p) Finset.univ i = stackY B i := by
  obtain ⟨x, -, rfl⟩ := Finset.mem_map.mp hi
  rw [View.write_emb_of_mem _ _ (Finset.mem_univ _)]
  exact (stackY_emb B p x).symm
theorem write_aA (p : Fin 32) (f : aM.view.ty.Contents (Elt F)) (i : S32x8x128.Idx) (hi : i ∈ (aM.access (rA p)).set) :
    (aM.access (rA p)).write (Elt F) f (A p) Finset.univ i = stackA A i := by
  obtain ⟨x, -, rfl⟩ := Finset.mem_map.mp hi
  rw [View.write_emb_of_mem _ _ (Finset.mem_univ _)]
  exact (stackA_emb A p x).symm

/-- A copy of the staged slot for the device at distance `d` into slot `d` there. -/
theorem copyY (c : Dev nD) (d : Fin 32) (h : B (slotOf (peer c d)) = B' d) (fd : sM.view.ty.Contents (Elt F))
    (i : S32x128x64.Idx) (hi : i ∈ (sSl d).view.set) :
    (sSl d).view.write (Elt F) fd ((ySl c d).view.read (Elt F) (stackY B)) Finset.univ i = stackY B' i := by
  obtain ⟨x, -, rfl⟩ := Finset.mem_map.mp hi
  rw [View.write_emb_of_mem _ _ (Finset.mem_univ _)]
  have hl : (ySl c d).view.read (Elt F) (stackY B) x = B (slotOf (peer c d)) (Shape.reshapeEquiv squeezes_S1x128x64_S128x64.numel_eq x) := by
    show stackY B ((rP c d).emb (Shape.reshapeEquiv squeezes_S1x128x64_S128x64.numel_eq x)) = _
    rw [rP_emb]; exact stackY_emb B _ _
  have hr : stackY B' ((sSl d).view.emb x) = B' d (Shape.reshapeEquiv squeezes_S1x128x64_S128x64.numel_eq x) :=
    stackY_emb B' d _
  show (ySl c d).view.read (Elt F) (stackY B) x = _
  rw [hl, h]; exact hr.symm
/-- A copy of slot 0 of the maxima into slot `d` of another device. -/
theorem copyA (d : Fin 32) (h : A 0 = A' d) (fd : aM.view.ty.Contents (Elt F))
    (i : S32x8x128.Idx) (hi : i ∈ (aSl d).view.set) :
    (aSl d).view.write (Elt F) fd ((aSl 0).view.read (Elt F) (stackA A)) Finset.univ i = stackA A' i := by
  obtain ⟨x, -, rfl⟩ := Finset.mem_map.mp hi
  rw [View.write_emb_of_mem _ _ (Finset.mem_univ _)]
  have hl : (aSl 0).view.read (Elt F) (stackA A) x = A 0 (Shape.reshapeEquiv squeezes_S1x8x128_S8x128.numel_eq x) :=
    stackA_emb A 0 _
  have hr : stackA A' ((aSl d).view.emb x) = A' d (Shape.reshapeEquiv squeezes_S1x8x128_S8x128.numel_eq x) :=
    stackA_emb A' d _
  show (aSl 0).view.read (Elt F) (stackA A) x = _
  rw [hl, h]; exact hr.symm

end Values

/-! ## Where each view lies -/

theorem set_yA (p : Fin 32) : (yM.access (rY p)).set = (rY p).set := View.set_slice_whole _ _
theorem set_sA (p : Fin 32) : (sM.access (rY p)).set = (rY p).set := View.set_slice_whole _ _
theorem set_aA (p : Fin 32) : (aM.access (rA p)).set = (rA p).set := View.set_slice_whole _ _
theorem set_ySl (c : Dev nD) (d : Fin 32) : (ySl c d).view.set = (rY (slotOf (peer c d))).set := by
  rw [← rP_eq]; exact (View.set_reshape _ _).trans (View.set_slice_whole _ _)
theorem set_sSl (d : Fin 32) : (sSl d).view.set = (rY d).set := (View.set_reshape _ _).trans (View.set_slice_whole _ _)
theorem set_aSl (d : Fin 32) : (aSl d).view.set = (rA d).set := (View.set_reshape _ _).trans (View.set_slice_whole _ _)

/-! ## The rows of the output -/

theorem rO_off (c : Dev nD) (d : Fin 32) :
    k0_off3 c (BitVec.ofNat 32 d.val) = ![128 * (slotOf (back c d)).val, 0] := k0_off3_eq c d

/-- Rows `[128 p, 128 p + 128)`. -/
def rowsSet (p : Fin 32) : Finset S4096x64.Idx := Finset.univ.filter fun i => (i 0).val / 128 = p.val

theorem rO_set (c : Dev nD) (d : Fin 32) : (rO c d).set = rowsSet (slotOf (back c d)) := by
  ext i
  have h1 := (i 1).isLt
  change (i 1).val < 64 at h1
  unfold rO
  rw [Rect.mem_set_unit, rO_off]
  unfold rowsSet
  rw [Finset.mem_filter]
  constructor
  · intro h
    have h0 := h 0
    change 128 * (slotOf (back c d)).val ≤ (i 0).val ∧ (i 0).val < 128 * (slotOf (back c d)).val + 128 at h0
    exact ⟨Finset.mem_univ _, by omega⟩
  · rintro ⟨-, h⟩ a
    fin_cases a
    · show 128 * (slotOf (back c d)).val ≤ (i 0).val ∧ (i 0).val < 128 * (slotOf (back c d)).val + 128
      omega
    · show 0 ≤ (i 1).val ∧ (i 1).val < 0 + 64
      omega

theorem rows_disj (p q : Fin 32) (h : p ≠ q) : Disjoint (rowsSet p) (rowsSet q) := by
  rw [Finset.disjoint_left]
  intro i hp hq
  exact h (Fin.ext ((Finset.mem_filter.mp hp).2.symm.trans (Finset.mem_filter.mp hq).2))
theorem rowBlock_lt (i : S4096x64.Idx) : (i 0).val / 128 < 32 := by
  have h := (i 0).isLt
  change (i 0).val < 4096 at h
  omega
theorem rows_cover : Finset.univ.biUnion rowsSet = Finset.univ :=
  Finset.eq_univ_of_forall fun i => Finset.mem_biUnion.mpr
    ⟨⟨(i 0).val / 128, rowBlock_lt i⟩, Finset.mem_univ _, Finset.mem_filter.mpr ⟨Finset.mem_univ _, rfl⟩⟩

/-- The index inside a block of rows. -/
def inO (i : S4096x64.Idx) : S128x64.Idx
  | ⟨0, _⟩ => ⟨(i 0).val % 128, Nat.mod_lt _ (by decide)⟩
  | ⟨1, _⟩ => i 1

/-- The output whose rows `[128 p, 128 p + 128)` are block `O p`. -/
def stackO {α : Type} (O : Fin 32 → S128x64.Idx → α) : S4096x64.Idx → α :=
  fun i => O ⟨(i 0).val / 128, rowBlock_lt i⟩ (inO i)

theorem stackO_emb {α : Type} (O : Fin 32 → S128x64.Idx → α) (c : Dev nD) (d : Fin 32) (x : S128x64.Idx) :
    stackO O ((rO c d).emb x) = O (slotOf (back c d)) x := by
  have hx := (x 0).isLt
  change (x 0).val < 128 at hx
  have h0 : (((rO c d).emb x) 0).val = 128 * (slotOf (back c d)).val + (x 0).val := by
    show (k0_off3 c (BitVec.ofNat 32 d.val)) 0 + 1 * (x 0).val = _
    rw [rO_off]
    show 128 * (slotOf (back c d)).val + 1 * (x 0).val = _
    omega
  have h1 : (((rO c d).emb x) 1).val = (x 1).val := by
    show (k0_off3 c (BitVec.ofNat 32 d.val)) 1 + 1 * (x 1).val = _
    rw [rO_off]
    show 0 + 1 * (x 1).val = _
    omega
  have hp : (⟨(((rO c d).emb x) 0).val / 128, rowBlock_lt _⟩ : Fin 32) = slotOf (back c d) := by
    refine Fin.ext ?_
    show (((rO c d).emb x) 0).val / 128 = (slotOf (back c d)).val
    rw [h0]; omega
  have hi : inO ((rO c d).emb x) = x := by
    funext a
    fin_cases a
    · refine Fin.ext ?_
      show (((rO c d).emb x) 0).val % 128 = (x 0).val
      rw [h0]; omega
    · exact Fin.ext h1
  unfold stackO
  rw [hp, hi]

theorem write_oO (O : Fin 32 → S128x64.Idx → Elt F .f32) (c : Dev nD) (d : Fin 32) (f : oM.view.ty.Contents (Elt F))
    (i : S4096x64.Idx) (hi : i ∈ (oM.access (rO c d)).set) :
    (oM.access (rO c d)).write (Elt F) f (O (slotOf (back c d))) Finset.univ i = stackO O i := by
  obtain ⟨x, -, rfl⟩ := Finset.mem_map.mp hi
  rw [View.write_emb_of_mem _ _ (Finset.mem_univ _)]
  exact (stackO_emb O c d x).symm
theorem set_oA (c : Dev nD) (d : Fin 32) : (oM.access (rO c d)).set = rowsSet (slotOf (back c d)) :=
  (View.set_slice_whole _ _).trans (rO_set c d)

end Cert.RowsProof

end
-- ==== Proof.Sched.lean ====
/-
# The protocol

One round. Every device first tells every other that it is inside the kernel, by one unit on the other's barrier
cell; with the unit it hands over the two landing slots the other will write. The barrier wait collects all 31
pairs of slots. A copy to the device at distance `d` is the duty of that device's receive cell `d` and of the
sender's own send cell `d`: the receive cell hands its owner the slot holding the sender's block, the send cell
hands the source back. The maxima are sent from one slot to everybody, so each copy takes a share of it.
-/
module

public import proofs.«01_k».proof.Proof.Contents
public import Idealize.ShloMosaic.Lib.Pipeline.Launch
public import Idealize.ShloMosaic.Lib.Pipeline.Kit
public import Idealize.ShloMosaic.Lib.Pipeline.BigSepL
public import Idealize.ShloMosaic.Lib.Transfers
public import Idealize.ShloMosaic.Lib.Tactic

@[expose] public section

noncomputable section

namespace Cert.RowsProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's, duties named by a distance -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The cells -/

/-- The four arrays of DMA semaphores: 0 the sends of blocks, 1 their receipts, 2 the sends of maxima, 3 their receipts. -/
def dmaS (k : Fin 4) (d : Fin 32) : DmaSem sig := match k with
  | 0 => dsS d | 1 => drS d | 2 => asS d | 3 => arS d

theorem dmaS_val : ∀ (k : Fin 4) (d : Fin 32), (dmaS k d).val = 3 + 32 * k.val + d.val := by decide +kernel

/-- A device's own semaphores (scoped to the launch), -/
abbrev osem (i : Fin 4 × Fin 32) : SemLoc sig := .dma (dmaS i.1 i.2)
/-- and with the barrier semaphore all the protocol uses. -/
abbrev csem (i : Option (Fin 4 × Fin 32)) : SemLoc sig := match i with
  | none => .reg barS | some j => osem j

abbrev CX : Type := Option (Fin 4 × Fin 32)
abbrev kcell (ck : Dev nD × CX) : GSem nD τ sig := ((ck.1 : Thread nD τ), csem ck.2)
abbrev barCell (c : Dev nD) : GSem nD τ sig := kcell (c, none)
abbrev dmaCell (k : Fin 4) (c : Dev nD) (d : Fin 32) : GSem nD τ sig := kcell (c, some (k, d))

/-- The credit of one block, and of one block of maxima. -/
abbrev NY : ℕ := (sSl 0).view.dmaCredit
abbrev NA : ℕ := (aSl 0).view.dmaCredit
theorem NY_pos : 0 < NY := View.dmaCredit_pos _ (by decide)
theorem NA_pos : 0 < NA := View.dmaCredit_pos _ (by decide)

/-! ## Contents -/

/-- What is staged of the two arguments. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Device `c`'s product, after relu. -/
def prodOf (c : Dev nD) : FVec F S128x2048 .f32 := k0_pay1 (xstg m ρ c) (wstg m ρ c)
/-- Its blocks as staged, -/
def stagedY (c : Dev nD) : Fin 32 → S1x128x64.Idx → Elt F .f32 := fun p => colsOf (prodOf m ρ c) p
/-- and what lands on `c`: in slot `d`, `c`'s columns of the product of the device `d` before it. -/
def landY (c : Dev nD) : Fin 32 → S1x128x64.Idx → Elt F .f32 := fun d => colsOf (prodOf m ρ (back c d)) (slotOf c)
/-- The maxima on `c`: in slot `d` that of the device `d` before it. -/
def landA (c : Dev nD) : Fin 32 → S1x8x128.Idx → Elt F .f32 := fun d => k0_pay36 (prodOf m ρ (back c d))
/-- The scale device `c` computes. -/
def scaleOf (c : Dev nD) : F .f32 := k0_pay38 (stackA (landA m ρ c))
/-- The rows of the result that come from device `p`. -/
def outB (c : Dev nD) : Fin 32 → S128x64.Idx → Elt F .f32 :=
  fun p => k0_pay40 (scaleOf m ρ c) (colsOf (prodOf m ρ (⟨p.val, p.isLt⟩ : Dev nD)) (slotOf c))
/-- The kernel's result on device `c`. -/
def outAt (c : Dev nD) : (cc0_stg2_0 : Ref sig .tc).ty.Contents (Elt F) := stackO (outB m ρ c)

/-! ## The parts of the scratch buffers -/

def yPts (c : Dev nD) (p : Fin 32) (f : Buf (Elt F) ((c : Thread nD τ).loc cc0_scratch0)) : sProp 𝕄 :=
  ((c : Thread nD τ).loc cc0_scratch0) ↦[(rY p).set]{fullShare} f
def sPts (c : Dev nD) (p : Fin 32) (f : Buf (Elt F) ((c : Thread nD τ).loc cc0_scratch1)) : sProp 𝕄 :=
  ((c : Thread nD τ).loc cc0_scratch1) ↦[(rY p).set]{fullShare} f
def aPts (c : Dev nD) (p : Fin 32) (q : PosShare TreeShare) (f : Buf (Elt F) ((c : Thread nD τ).loc cc0_scratch2)) : sProp 𝕄 :=
  ((c : Thread nD τ).loc cc0_scratch2) ↦[(rA p).set]{q} f

/-- The share of the maximum that the copy at distance `d` takes: from the right half; the left half stays. -/
def shr (d : Fin 32) : PosShare TreeShare := Transfers.shareTok fullShare.right 32 d

instance yPts_storable (c : Dev nD) (p) (f) : BI.Storable (upEmb : UEmb _ 𝕄) (yPts (F := F) c p f) := by unfold yPts; infer_instance
instance sPts_storable (c : Dev nD) (p) (f) : BI.Storable (upEmb : UEmb _ 𝕄) (sPts (F := F) c p f) := by unfold sPts; infer_instance
instance aPts_storable (c : Dev nD) (p) (q) (f) : BI.Storable (upEmb : UEmb _ 𝕄) (aPts (F := F) c p q f) := by unfold aPts; infer_instance

/-! ## The schedule -/

/-- What the signal from the device at distance `e` hands `c`: the two slots `e` there. -/
def barPay (c : Dev nD) (e : Fin 32) : sProp 𝕄 :=
  iprop((∃ f, sPts (peer c e) e f) ∗ (∃ f, aPts (peer c e) e fullShare f))

def dmaPay (k : ℕ) (c : Dev nD) (d : Fin 32) : sProp 𝕄 := match k with
  | 0 => yPts c (slotOf (peer c d)) (stackY (stagedY m ρ c))
  | 1 => sPts c d (stackY (landY m ρ c))
  | 2 => aPts c 0 (shr d) (stackA (landA m ρ c))
  | _ => aPts c d fullShare (stackA (landA m ρ c))

instance barPay_storable (c : Dev nD) (e) : BI.Storable (upEmb : UEmb _ 𝕄) (barPay (F := F) c e) := by unfold barPay; infer_instance
instance dmaPay_storable (k c d) : BI.Storable (upEmb : UEmb _ 𝕄) (dmaPay (F := F) m ρ k c d) := by
  unfold dmaPay; split <;> infer_instance

/-- Which array a semaphore of the protocol belongs to, and its entry. -/
def arrOf (q : DmaSem sig) : ℕ := (q.val - 3) / 32
def entOf (q : DmaSem sig) : Fin 32 := ⟨(q.val - 3) % 32, Nat.mod_lt _ (by decide)⟩

theorem arrOf_dmaS (k : Fin 4) (d : Fin 32) : arrOf (dmaS k d) = k.val := by
  have := d.isLt
  unfold arrOf; rw [dmaS_val]; omega
theorem entOf_dmaS (k : Fin 4) (d : Fin 32) : entOf (dmaS k d) = d := by
  have := d.isLt
  refine Fin.ext ?_; simp only [entOf]; rw [dmaS_val]; omega

/-- The number of credits of an array's transfers. -/
def credN (k : ℕ) : ℕ := if k < 2 then NY else NA
theorem credN_pos (k : ℕ) : 0 < credN k := by unfold credN; split; exacts [NY_pos, NA_pos]

/-- A barrier cell has one duty per distance other than 0; every DMA cell but the entries 0 has one. -/
def rowsRd : Rounds.Schedule (GSem nD τ sig) (Fin 32) 𝕄 where
  duties g r := if r = 0 then (match g.2 with
    | .reg _ => Finset.univ.erase 0
    | .dma q => if entOf q = 0 then ∅ else {0}) else ∅
  unitless _ := False
  amount g _ _ := match g.2 with
    | .reg _ => 1
    | .dma q => credN (arrOf q)
  payload g _ e := match g.2 with
    | .reg _ => barPay g.1.1 e
    | .dma q => dmaPay m ρ (arrOf q) g.1.1 (entOf q)
  amount_pos g _ _ _ := by
    cases g.2 with
    | reg _ => exact Nat.one_pos
    | dma q => exact credN_pos _

instance rowsRd_payload_storable (g : GSem nD τ sig) (r : ℕ) (d : Fin 32) :
    BI.Storable (upEmb : UEmb _ 𝕄) ((rowsRd (F := F) m ρ).payload g r d) := by
  obtain ⟨th, sm⟩ := g
  cases sm with
  | reg _ => exact barPay_storable _ _
  | dma q => exact dmaPay_storable _ _ _ _ _

section Sched
variable (c : Dev nD) (k : Fin 4) (d : Fin 32)

theorem duties_bar : (rowsRd (F := F) m ρ).duties (barCell c) 0 = Finset.univ.erase 0 := rfl
theorem duties_dma (h : d ≠ 0) : (rowsRd (F := F) m ρ).duties (dmaCell k c d) 0 = {0} := by
  show (if entOf (dmaS k d) = 0 then (∅ : Finset (Fin 32)) else {0}) = {0}
  rw [entOf_dmaS, if_neg h]
theorem duties_dma0 (r : ℕ) : (rowsRd (F := F) m ρ).duties (dmaCell k c 0) r = ∅ := by
  show (if r = 0 then (if entOf (dmaS k 0) = 0 then (∅ : Finset (Fin 32)) else {0}) else ∅) = ∅
  rw [entOf_dmaS, if_pos rfl, ite_self]
theorem duties_later (g : GSem nD τ sig) : ∀ r, 1 ≤ r → (rowsRd (F := F) m ρ).duties g r = ∅ :=
  fun r hr => by dsimp only [rowsRd]; rw [if_neg (by omega)]

theorem amount_bar (e : Fin 32) : (rowsRd (F := F) m ρ).amount (barCell c) 0 e = 1 := rfl
theorem amount_dma (e : Fin 32) : (rowsRd (F := F) m ρ).amount (dmaCell k c d) 0 e = credN k.val := by
  show credN (arrOf (dmaS k d)) = _
  rw [arrOf_dmaS]

theorem expect_bar : (rowsRd (F := F) m ρ).expect (barCell c) 0 = 31 := by
  unfold Schedule.expect Schedule.amountOf
  rw [duties_bar, Finset.sum_congr rfl fun e _ => amount_bar m ρ c e, Finset.sum_const, smul_eq_mul]
  rfl
theorem expect_dma (h : d ≠ 0) : (rowsRd (F := F) m ρ).expect (dmaCell k c d) 0 = credN k.val := by
  unfold Schedule.expect Schedule.amountOf
  rw [duties_dma m ρ c k d h, Finset.sum_singleton, amount_dma]

theorem payload_bar (e : Fin 32) : (rowsRd (F := F) m ρ).payload (barCell c) 0 e = barPay c e := rfl
theorem payload_dma (e : Fin 32) : (rowsRd (F := F) m ρ).payload (dmaCell k c d) 0 e = dmaPay m ρ k.val c d := by
  show dmaPay m ρ (arrOf (dmaS k d)) c (entOf (dmaS k d)) = _
  rw [arrOf_dmaS, entOf_dmaS]

theorem rest_dma (h : d ≠ 0) :
    bigSep ((rowsRd (F := F) m ρ).duties (dmaCell k c d) 0 \ ∅) (fun e => (rowsRd (F := F) m ρ).payload (dmaCell k c d) 0 e)
      = dmaPay m ρ k.val c d := by
  rw [Finset.sdiff_empty, duties_dma m ρ c k d h, bigSep_singleton, payload_dma]

end Sched

/-! ## Lists of distances -/

theorem far_nodup : far.Nodup := by decide
theorem slots_nodup : slots.Nodup := by decide
theorem far_eq : (Finset.univ.erase 0 : Finset (Fin 32)) = far.toFinset := by decide
theorem slots_eq : (Finset.univ : Finset (Fin 32)) = slots.toFinset := by decide
theorem far_ne (d : Fin 32) (h : d ∈ far) : d ≠ 0 := by
  have : d ∈ (Finset.univ.erase 0 : Finset (Fin 32)) := by rw [far_eq]; exact List.mem_toFinset.mpr h
  exact Finset.ne_of_mem_erase this

theorem sep_far (Φ : Fin 32 → sProp 𝕄) : bigSep (Finset.univ.erase 0) Φ = bigSepL far Φ :=
  bigSep_eq_bigSepL_of_eq far far_eq far_nodup Φ
theorem sep_slots (Φ : Fin 32 → sProp 𝕄) : bigSep Finset.univ Φ = bigSepL slots Φ :=
  bigSep_eq_bigSepL_of_eq slots slots_eq slots_nodup Φ
/-- All slots are slot 0 and the others. -/
theorem sep_zero (Φ : Fin 32 → sProp 𝕄) : bigSep Finset.univ Φ = iprop(Φ 0 ∗ bigSepL far Φ) := by
  rw [sep_slots]; exact bigSepL_cons' 0 far Φ
/-- The others, read backwards. -/
theorem sep_far_opp (Φ : Fin 32 → sProp 𝕄) : bigSepL far Φ = bigSepL far (fun d => Φ (opp d)) := by
  rw [← sep_far, ← sep_far]
  have h := bigSep_image_of_injOn (s := (Finset.univ.erase 0 : Finset (Fin 32))) (f := opp)
    (fun a _ b _ e => by have := congrArg opp e; rwa [opp_opp, opp_opp] at this) Φ
  rw [← h]
  congr 1
  decide

/-! ## What each device owes; the levels -/

/-- The credits still owed for the copies at the distances in the list, -/
def sendO (c : Dev nD) : List (Fin 32) → CellTallies nD τ sig Unit
  | [] => 0
  | d :: ds => (sendO c ds + tallyAt (dmaCell 3 (peer c d) d) () NA) + tallyAt (dmaCell 1 (peer c d) d) () NY
/-- and for the signals. -/
def sigO (c : Dev nD) : List (Fin 32) → CellTallies nD τ sig Unit
  | [] => sendO c far
  | d :: ds => sigO c ds + tallyAt (barCell (peer c d)) () 1
def O₀ (c : Dev nD) : CellTallies nD τ sig Unit := sigO c far

def L (g : GSem nD τ sig) : Finset Unit := if g.1.2 = .tc then {()} else ∅
/-- Barrier cells at 1, the receive cells at 2, everything else at 0. -/
def lv (g : GSem nD τ sig) (_ : Unit) : ℕ := match g.2 with
  | .reg _ => 1
  | .dma q => if 3 ≤ q.val ∧ (arrOf q = 1 ∨ arrOf q = 3) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (k : Fin 4) (c : Dev nD) (d : Fin 32) (u : Unit) (hk : k = 1 ∨ k = 3) : lv (dmaCell k c d) u = 2 := by
  show (if 3 ≤ (dmaS k d).val ∧ (arrOf (dmaS k d) = 1 ∨ arrOf (dmaS k d) = 3) then 2 else 0) = 2
  rw [arrOf_dmaS, dmaS_val]
  refine if_pos ⟨by omega, ?_⟩
  rcases hk with rfl | rfl
  · exact .inl rfl
  · exact .inr rfl

/-- What is owed for copies lies on receive cells of tensor cores. -/
theorem sendO_pos (c : Dev nD) : ∀ (ds : List (Fin 32)) {g : GSem nD τ sig} {u : Unit}, 0 < sendO c ds g u →
    ∃ c' k d, g = dmaCell k c' d ∧ (k = 1 ∨ k = 3)
  | [], g, u, h => absurd h (Nat.lt_irrefl 0)
  | d :: ds, g, u, h => by
    unfold sendO at h
    rw [Pi.add_apply, Finsupp.add_apply, Pi.add_apply, Finsupp.add_apply, tallyAt_apply, tallyAt_apply] at h
    by_cases h1 : g = dmaCell 1 (peer c d) d ∧ u = ()
    · exact ⟨_, 1, d, h1.1, .inl rfl⟩
    by_cases h3 : g = dmaCell 3 (peer c d) d ∧ u = ()
    · exact ⟨_, 3, d, h3.1, .inr rfl⟩
    rw [if_neg h1, if_neg h3] at h
    exact sendO_pos c ds h
theorem sigO_pos (c : Dev nD) : ∀ (ds : List (Fin 32)) {g : GSem nD τ sig} {u : Unit}, 0 < sigO c ds g u →
    (∃ c', g = barCell c') ∨ ∃ c' k d, g = dmaCell k c' d ∧ (k = 1 ∨ k = 3)
  | [], g, u, h => .inr (sendO_pos c far h)
  | d :: ds, g, u, h => by
    unfold sigO at h
    rw [Pi.add_apply, Finsupp.add_apply, tallyAt_apply] at h
    by_cases h1 : g = barCell (peer c d) ∧ u = ()
    · exact .inl ⟨_, h1.1⟩
    rw [if_neg h1] at h
    exact sigO_pos c ds h

/-- A wait for a staging transfer is below everything owed. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases sigO_pos c far hg with ⟨c', rfl⟩ | ⟨c', k, d, rfl, hk⟩ <;> exact Finset.mem_singleton_self _)
      (fun p hp => by
        rw [Finset.mem_singleton.mp hp]
        show (if 3 ≤ q.val ∧ (arrOf q = 1 ∨ arrOf q = 3) then 2 else 0) ≤ 0
        rw [if_neg (fun h => by omega)])
      (fun g u hg => by
        rcases sigO_pos c far hg with ⟨c', rfl⟩ | ⟨c', k, d, rfl, hk⟩
        · rw [lv_bar]; decide
        · rw [lv_recv _ _ _ _ hk]; decide)
  · rw [MayWait_zero]; iintro -; iempintro

/-- At its barrier wait a device owes the receive cells only, which lie above its barrier cell. -/
theorem mayWait_bar (c : Dev nD) :
    (levAts L lv : sProp 𝕄) ⊢ MayWait (c : Thread nD τ) (.reg barS) () (sendO c far) :=
  MayOwe.of_cut (L := L) (lev := lv) 1 (fun p hp => by rw [Finset.mem_singleton.mp hp, L_tc]; exact Finset.mem_singleton_self _)
    (fun g u hg => by
      obtain ⟨c', k, d, rfl, hk⟩ := sendO_pos c far hg
      exact Finset.mem_singleton_self _)
    (fun p hp => by rw [Finset.mem_singleton.mp hp]; exact le_refl 1)
    (fun g u hg => by
      obtain ⟨c', k, d, rfl, hk⟩ := sendO_pos c far hg
      rw [lv_recv _ _ _ _ hk]; decide)

end Cert.RowsProof

end
-- ==== Proof.Phases.lean ====
/-
# The phases of the body

One lemma per phase: what one step at distance `d` takes and gives, at a symbolic device and distance. `wp_each`
chains the steps of a loop.
-/
module

public import proofs.«01_k».proof.Proof.Sched

@[expose] public section

noncomputable section

namespace Cert.RowsProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program of device `c`. -/
abbrev wpc (c : Dev nD) {α : Type} (p : KProg F α) (Q : α → sProp 𝕄) : sProp 𝕄 :=
  wp frame (wpE (defs₀ (F := F)) 𝒱₀ (c : Thread nD τ) none) Set.univ p Q

variable (m : (ℓ : Loc nD τ sig) → Buf (Elt F) ℓ) (ρ : Dev nD → PrngReg)

/-! ## Chaining steps -/

/-- A loop, from its step: `R` is what a step finds given the entries still to come, `Pre d` what it consumes at `d`
    and `Post d` what it leaves. -/
theorem wp_each (c : Dev nD) (f : Fin 32 → KProg F PUnit) (Pre Post : Fin 32 → sProp 𝕄) (R : List (Fin 32) → sProp 𝕄) :
    ∀ (ds : List (Fin 32))
      (step : ∀ d ∈ ds, ∀ (rest : List (Fin 32)) (Kt : PUnit → sProp 𝕄),
        iprop(R (d :: rest) ∗ Pre d ∗ ((R rest ∗ Post d) -∗ Kt ⟨⟩)) ⊢ wpc c (f d) Kt)
      (Kt : PUnit → sProp 𝕄),
      iprop(R ds ∗ bigSepL ds Pre ∗ ((R [] ∗ bigSepL ds Post) -∗ Kt ⟨⟩)) ⊢ wpc c (each f ds) Kt
  | [], step, Kt => by
    show _ ⊢ wpc c (Prog.ret ⟨⟩) Kt
    unfold wpc
    rw [wp_ret]
    iintro ⟨HR, Hp, Hk⟩
    imodintro
    iapply Hk
    isplitl [HR]; · iexact HR
    iexact Hp
  | d :: ds, step, Kt => by
    show _ ⊢ wpc c (f d >>= fun _ => each f ds) Kt
    unfold wpc
    rw [wp_bind, bigSepL_cons', bigSepL_cons']
    iintro ⟨HR, ⟨Hd, Hds⟩, Hk⟩
    iapply (step d (List.mem_cons_self ..) ds (fun _ => wpc c (each f ds) Kt))
    isplitl [HR]; · iexact HR
    isplitl [Hd]; · iexact Hd
    iintro ⟨HR, Hpost⟩
    iapply (wp_each c f Pre Post R ds (fun d' hd' => step d' (List.mem_cons_of_mem _ hd')) Kt)
    isplitl [HR]; · iexact HR
    isplitl [Hds]; · iexact Hds
    iintro ⟨HR, Hposts⟩
    iapply Hk
    isplitl [HR]; · iexact HR
    isplitl [Hpost]; · iexact Hpost
    iexact Hposts

/-! ## What every step may use -/

variable (K : Dev nD × CX → ℕ)

/-- Every cell's invariant, and that its round 0 is reached. -/
def records : sProp 𝕄 :=
  bigSep Finset.univ fun ck : Dev nD × CX => iprop(cellInv ER (rowsRd m ρ) (K ck) (kcell ck) ∗ reached ER (kcell ck) 0)

instance records_persistent : BI.Persistent (records m ρ K) := by unfold records; infer_instance

theorem record_at (ck : Dev nD × CX) :
    records m ρ K ⊢ iprop(cellInv ER (rowsRd m ρ) (K ck) (kcell ck) ∗ reached ER (kcell ck) 0) :=
  bigSep_elim (Finset.mem_univ ck)

/-- What device `c` owes, whatever it has waited for. -/
def Owes (c : Dev nD) (O : CellTallies nD τ sig Unit) : sProp 𝕄 := iprop(∃ W, owes (c : Thread nD τ) O W)

/-! ## The signals -/

def sigPre (c : Dev nD) (d : Fin 32) : sProp 𝕄 :=
  iprop(dutyTok ER (barCell (peer c d)) 0 (opp d) ∗ (∃ f, sPts c (opp d) f) ∗ (∃ f, aPts c (opp d) fullShare f))

theorem sigStep_wp (c : Dev nD) (d : Fin 32) (hd : d ≠ 0) (ds : List (Fin 32)) (Kt : PUnit → sProp 𝕄) :
    iprop((records m ρ K ∗ Owes c (sigO c (d :: ds))) ∗ sigPre c d ∗ (((records m ρ K ∗ Owes c (sigO c ds)) ∗ emp) -∗ Kt ⟨⟩))
      ⊢ wpc c (sigStep (F := F) c d) Kt := by
  unfold wpc sigStep sigPre Owes
  simp only [semSignalWord, Prog.lift, Prog.bind_op, Prog.bind_ret, Prog.pure_eq_ret]
  iintro ⟨⟨#HK, ⟨%W, HO⟩⟩, ⟨Htok, Hs, Ha⟩, Hk⟩
  ihave Hrec := (record_at m ρ K (peer c d, none)) $$ HK
  icases Hrec with ⟨#HI, #HR⟩
  iapply (Rounds.wp_signal 𝒱₀ ER (rowsRd m ρ) (c : Thread nD τ) none (dst := (peer c d : Thread nD τ)) (κ := K (peer c d, none))
      (d := opp d) (by rw [duties_bar m ρ (peer c d)]; exact Finset.mem_erase.mpr ⟨opp_ne d hd, Finset.mem_univ _⟩)
      ((amount_bar m ρ (peer c d) (opp d)).trans (by decide)) () (sigO c ds) rfl)
    $$ [HO Htok Hs Ha]
  · isplitr; · iexact HI
    isplitl [HO]; · iexact HO
    isplitl [Htok]; · iexact Htok
    isplitl [Hs Ha]
    · rw [payload_bar]; unfold barPay; rw [peer_opp]
      isplitl [Hs]; · iexact Hs
      iexact Ha
    iexact HR
  iintro HO
  rw [wp_ret]; imodintro
  iapply Hk
  isplitl [HO]
  · isplitr; · iexact HK
    iexists W; iexact HO
  iempintro

/-! ## The elements loads and stores touch -/

theorem touch_whole {b : Ref sig .tc} (r : Rect b.ty.shape) :
    (Memref.whole b : Memref sig .tc _ _ _).view.setOn r.toLoadRect.set ⊆ r.set := by
  intro i hi
  obtain ⟨x, hx, rfl⟩ := Finset.mem_map.mp hi
  exact hx
theorem touch_yY (p : Fin 32) : yM.view.setOn (rY p).toLoadRect.set ⊆ (rY p).set := touch_whole (b := cc0_scratch0) (rY p)
theorem touch_sY (p : Fin 32) : sM.view.setOn (rY p).toLoadRect.set ⊆ (rY p).set := touch_whole (b := cc0_scratch1) (rY p)
theorem touch_aA (p : Fin 32) : aM.view.setOn (rA p).toLoadRect.set ⊆ (rA p).set := touch_whole (b := cc0_scratch2) (rA p)
theorem touch_oO (c : Dev nD) (d : Fin 32) : oM.view.setOn (rO c d).toLoadRect.set ⊆ rowsSet (slotOf (back c d)) := by
  rw [← rO_set]; exact touch_whole (b := cc0_stg2_0) (rO c d)
theorem puts_yY (p : Fin 32) : (yM.access (rY p)).setOn Finset.univ ⊆ (rY p).set := by
  rw [View.setOn_univ, set_yA]
theorem puts_sY (p : Fin 32) : (sM.access (rY p)).setOn Finset.univ ⊆ (rY p).set := by
  rw [View.setOn_univ, set_sA]
theorem puts_aA (p : Fin 32) : (aM.access (rA p)).setOn Finset.univ ⊆ (rA p).set := by
  rw [View.setOn_univ, set_aA]
theorem puts_oO (c : Dev nD) (d : Fin 32) : (oM.access (rO c d)).setOn Finset.univ ⊆ rowsSet (slotOf (back c d)) := by
  rw [View.setOn_univ, set_oA]

/-! ## The staged product -/

theorem putStep_wp (c : Dev nD) (p : Fin 32) (Kt : PUnit → sProp 𝕄) :
    iprop(emp ∗ (∃ f, yPts c p f) ∗ ((emp ∗ yPts c p (stackY (stagedY m ρ c))) -∗ Kt ⟨⟩))
      ⊢ wpc c (putStep (prodOf m ρ c) p) Kt := by
  unfold wpc putStep yPts
  simp only [Prog.lift, Prog.bind_op, Prog.bind_ret, Prog.pure_eq_ret]
  iintro ⟨-, ⟨%f, Hy⟩, Hk⟩
  iapply (wp_load 𝒱₀ (c : Thread nD τ) none Set.univ (m := yM) (S := (rY p).set) (touch_yY p)) $$ Hy
  iintro Hy
  iapply (wp_store 𝒱₀ (c : Thread nD τ) none Set.univ (m := yM) (r := rY p) (Mk := Finset.univ) (S := (rY p).set)
    (puts_yY p)) $$ Hy
  iintro Hy
  rw [wp_ret]; imodintro
  iapply Hk
  isplitr; · iempintro
  ihave Hy' := (Entails.of_eq (pointsTo_congr (g := stackY (stagedY m ρ c)) (fun i hi =>
    write_yY (stagedY m ρ c) p f i (by rw [set_yA]; exact hi)))) $$ Hy
  iexact Hy'

/-! ## The copies -/

def copyPre (c : Dev nD) (d : Fin 32) : sProp 𝕄 :=
  iprop(yPts c (slotOf (peer c d)) (stackY (stagedY m ρ c)) ∗ aPts c 0 (shr d) (stackA (landA m ρ c)) ∗ barPay c d
    ∗ dutyTok ER (dmaCell 0 c d) 0 0 ∗ dutyTok ER (dmaCell 1 (peer c d) d) 0 0
    ∗ dutyTok ER (dmaCell 2 c d) 0 0 ∗ dutyTok ER (dmaCell 3 (peer c d) d) 0 0)
def copyPost (c : Dev nD) (d : Fin 32) : sProp 𝕄 :=
  iprop(cred (tallyAt (dmaCell 0 c d) () NY) ∗ cred (tallyAt (dmaCell 2 c d) () NA))

theorem stagedY_land (c : Dev nD) (d : Fin 32) : stagedY m ρ c (slotOf (peer c d)) = landY m ρ (peer c d) d := by
  unfold stagedY landY; rw [back_peer]
theorem landA_land (c : Dev nD) (d : Fin 32) : landA m ρ c 0 = landA m ρ (peer c d) d := by
  unfold landA; rw [back_peer, back_zero]

theorem mem_duty (k : Fin 4) (c : Dev nD) (d : Fin 32) (hd : d ≠ 0) :
    (0 : Fin 32) ∈ (rowsRd (F := F) m ρ).duties (dmaCell k c d) 0 := by
  rw [duties_dma m ρ c k d hd]; exact Finset.mem_singleton_self _

theorem sent_y (c : Dev nD) (d : Fin 32) :
    ((ySl c d).view.loc (c : Thread nD τ) ↦[(ySl c d).view.set]{fullShare} (stackY (stagedY m ρ c)) : sProp 𝕄)
      ⊢ (rowsRd m ρ).payload (dmaCell 0 c d) 0 0 := by
  rw [payload_dma m ρ c 0 d 0, set_ySl]; exact BI.Entails.refl _
theorem sent_a (c : Dev nD) (d : Fin 32) :
    ((aSl 0).view.loc (c : Thread nD τ) ↦[(aSl 0).view.set]{shr d} (stackA (landA m ρ c)) : sProp 𝕄)
      ⊢ (rowsRd m ρ).payload (dmaCell 2 c d) 0 0 := by
  rw [payload_dma m ρ c 2 d 0, set_aSl]; exact BI.Entails.refl _
theorem landed_y (c : Dev nD) (d : Fin 32) (fd : Buf (Elt F) ((peer c d : Thread nD τ).loc cc0_scratch1)) :
    ((sSl d).view.loc (peer c d : Thread nD τ) ↦[(sSl d).view.set]{fullShare}
        ((sSl d).view.write (Elt F) fd ((ySl c d).view.read (Elt F) (stackY (stagedY m ρ c))) Finset.univ) : sProp 𝕄)
      ⊢ (rowsRd m ρ).payload (dmaCell 1 (peer c d) d) 0 0 := by
  rw [payload_dma m ρ (peer c d) 1 d 0,
    pointsTo_congr (g := stackY (landY m ρ (peer c d))) (fun i hi => copyY _ _ c d (stagedY_land m ρ c d) fd i hi), set_sSl]
  exact BI.Entails.refl _
theorem landed_a (c : Dev nD) (d : Fin 32) (fd : Buf (Elt F) ((peer c d : Thread nD τ).loc cc0_scratch2)) :
    ((aSl d).view.loc (peer c d : Thread nD τ) ↦[(aSl d).view.set]{fullShare}
        ((aSl d).view.write (Elt F) fd ((aSl 0).view.read (Elt F) (stackA (landA m ρ c))) Finset.univ) : sProp 𝕄)
      ⊢ (rowsRd m ρ).payload (dmaCell 3 (peer c d) d) 0 0 := by
  rw [payload_dma m ρ (peer c d) 3 d 0,
    pointsTo_congr (g := stackA (landA m ρ (peer c d))) (fun i hi => copyA _ _ d (landA_land m ρ c d) fd i hi), set_aSl]
  exact BI.Entails.refl _

set_option maxHeartbeats 800000 in
theorem copyStep_wp (c : Dev nD) (d : Fin 32) (hd : d ≠ 0) (ds : List (Fin 32)) (Kt : PUnit → sProp 𝕄) :
    iprop((records m ρ K ∗ Owes c (sendO c (d :: ds))) ∗ copyPre m ρ c d
        ∗ (((records m ρ K ∗ Owes c (sendO c ds)) ∗ copyPost c d) -∗ Kt ⟨⟩))
      ⊢ wpc c (copyStep (F := F) c d) Kt := by
  unfold wpc copyStep copyPre copyPost barPay Owes
  simp only [Prog.lift, Prog.bind_op, Prog.bind_ret, Prog.pure_eq_ret]
  iintro ⟨⟨#HK, ⟨%W, HO⟩⟩, ⟨Hy, Ha, ⟨⟨%fs, Hs⟩, ⟨%fa, Hb⟩⟩, Ht0, Ht1, Ht2, Ht3⟩, Hk⟩
  ihave Hr0 := (record_at m ρ K (c, some (0, d))) $$ HK
  icases Hr0 with ⟨#HI0, #HR0⟩
  ihave Hr1 := (record_at m ρ K (peer c d, some (1, d))) $$ HK
  icases Hr1 with ⟨#HI1, #HR1⟩
  ihave Hr2 := (record_at m ρ K (c, some (2, d))) $$ HK
  icases Hr2 with ⟨#HI2, #HR2⟩
  ihave Hr3 := (record_at m ρ K (peer c d, some (3, d))) $$ HK
  icases Hr3 with ⟨#HI3, #HR3⟩
  unfold yPts sPts aPts
  rw [← set_ySl, ← set_sSl d, ← set_aSl 0, ← set_aSl d]
  iapply (Rounds.wp_send_pointsTo 𝒱₀ ER (rowsRd m ρ) (c : Thread nD τ) none (src := ySl c d) (dst := sSl d) (c' := (peer c d : Thread nD τ))
      (κ₁ := K (c, some (0, d))) (κ₂ := K (peer c d, some (1, d)))
      (r₁ := 0) (r₂ := 0) (d₁ := 0) (d₂ := 0) (fd := fs) (sS := .dma (dsS d)) (sem := .dma (drS d))
      (mem_duty m ρ 0 c d hd) (mem_duty m ρ 1 (peer c d) d hd)
      () () NY rfl (amount_dma m ρ c 0 d 0) (amount_dma m ρ (peer c d) 1 d 0)
      (sendO c ds + tallyAt (dmaCell 3 (peer c d) d) () NA) rfl (W := W)
      (sent_y m ρ c d) (landed_y m ρ c d fs)) $$ [Hy Hs HO Ht0 Ht1]
  · isplitr; · iexact HI0
    isplitr; · iexact HI1
    isplitl [Hy]; · iexact Hy
    isplitl [Hs]; · iexact Hs
    isplitl [HO]; · iexact HO
    isplitl [Ht0]; · iexact Ht0
    isplitr; · iexact HR0
    isplitl [Ht1]; · iexact Ht1
    iexact HR1
  iintro ⟨Hc0, HO⟩
  iapply (Rounds.wp_send_pointsTo 𝒱₀ ER (rowsRd m ρ) (c : Thread nD τ) none (src := aSl 0) (dst := aSl d) (c' := (peer c d : Thread nD τ))
      (κ₁ := K (c, some (2, d))) (κ₂ := K (peer c d, some (3, d)))
      (r₁ := 0) (r₂ := 0) (d₁ := 0) (d₂ := 0) (fd := fa) (sS := .dma (asS d)) (sem := .dma (arS d))
      (mem_duty m ρ 2 c d hd) (mem_duty m ρ 3 (peer c d) d hd)
      () () NA rfl (amount_dma m ρ c 2 d 0) (amount_dma m ρ (peer c d) 3 d 0)
      (sendO c ds) rfl (W := W)
      (sent_a m ρ c d) (landed_a m ρ c d fa)) $$ [Ha Hb HO Ht2 Ht3]
  · isplitr; · iexact HI2
    isplitr; · iexact HI3
    isplitl [Ha]; · iexact Ha
    isplitl [Hb]; · iexact Hb
    isplitl [HO]; · iexact HO
    isplitl [Ht2]; · iexact Ht2
    isplitr; · iexact HR2
    isplitl [Ht3]; · iexact Ht3
    iexact HR3
  iintro ⟨Hc2, HO⟩
  rw [wp_ret]; imodintro
  iapply Hk
  isplitl [HO]
  · isplitr; · iexact HK
    iexists W; iexact HO
  isplitl [Hc0]; · iexact Hc0
  iexact Hc2

/-! ## The waits for the copies -/

def waitPre (k : Fin 4) (c : Dev nD) (d : Fin 32) : sProp 𝕄 :=
  iprop(cred (tallyAt (dmaCell k c d) () (credN k.val)) ∗ atPos ER (dmaCell k c d) 0 ∅ 0)
def waitPost (k : Fin 4) (c : Dev nD) (d : Fin 32) : sProp 𝕄 :=
  iprop(dmaPay m ρ k.val c d ∗ semVal (dmaCell k c d) 0)

/-- A wait for a copy takes its payload, and the cell closes. -/
theorem wait_wp (k : Fin 4) (c : Dev nD) (d : Fin 32) (hd : d ≠ 0) (w : TpuEff nD τ sig (Elt F) Λ₀ .tc PUnit)
    (hw : ∀ Q : PUnit → sProp 𝕄, wpE (defs₀ (F := F)) 𝒱₀ (c : Thread nD τ) none Set.univ w Q
      = waitSpec (c : Thread nD τ) Set.univ (osem (k, d)) (credN k.val) Q) (Kt : PUnit → sProp 𝕄) :
    iprop((records m ρ K ∗ Owes c 0) ∗ waitPre k c d ∗ (((records m ρ K ∗ Owes c 0) ∗ waitPost m ρ k c d) -∗ Kt ⟨⟩))
      ⊢ wpc c (.op w Prog.ret) Kt := by
  unfold wpc waitPre waitPost Owes
  iintro ⟨⟨#HK, ⟨%W, HO⟩⟩, ⟨Hc, Hat⟩, Hk⟩
  ihave Hr := (record_at m ρ K (c, some (k, d))) $$ HK
  icases Hr with ⟨#HI, #HR⟩
  iapply (Rounds.wp_wait_rest_token 𝒱₀ ER (rowsRd m ρ) (c : Thread nD τ) none (κ := K (c, some (k, d)))
      hw (Set.mem_univ _) () (O := 0) (W := W) (R := 0) (m := 0) (T := ∅)
      (by rw [Nat.zero_add]; exact (expect_dma m ρ c k d hd).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_dma m ρ c k d hd)) $$ Hpay
  imod (Rounds.cell_close ER (rowsRd m ρ) (Set.mem_univ (K (c, some (k, d)))) (fun h => h) (R := 0 + 1)
    (duties_later m ρ (dmaCell k c d))) $$ [Hat] with Hz
  · isplitr; · iexact HI
    iexact Hat
  rw [wp_ret]; imodintro
  iapply Hk
  isplitl [HO]
  · isplitr; · iexact HK
    iexists _; iexact HO
  isplitl [Hp]; · iexact Hp
  iexact Hz

theorem credit_sSl (d : Fin 32) : (sSl d).view.dmaCredit = credN 1 := rfl
theorem credit_ySl (c : Dev nD) (d : Fin 32) : (ySl c d).view.dmaCredit = credN 0 := rfl
theorem credit_aSl (d : Fin 32) : (aSl d).view.dmaCredit = credN 2 := rfl

theorem arStep_wp (c : Dev nD) (d : Fin 32) (hd : d ≠ 0) (Kt : PUnit → sProp 𝕄) :
    iprop((records m ρ K ∗ Owes c 0) ∗ waitPre 3 c d ∗ (((records m ρ K ∗ Owes c 0) ∗ waitPost m ρ 3 c d) -∗ Kt ⟨⟩))
      ⊢ wpc c (arStep (F := F) d) Kt := by
  unfold arStep Prog.lift
  refine wait_wp m ρ K 3 c d hd _ (fun Q => ?_) Kt
  rw [wpE_waitDma2_eq, credit_aSl d]
  rfl
theorem drStep_wp (c : Dev nD) (d : Fin 32) (hd : d ≠ 0) (Kt : PUnit → sProp 𝕄) :
    iprop((records m ρ K ∗ Owes c 0) ∗ waitPre 1 c d ∗ (((records m ρ K ∗ Owes c 0) ∗ waitPost m ρ 1 c d) -∗ Kt ⟨⟩))
      ⊢ wpc c (drStep (F := F) c d) Kt := by
  unfold drStep Prog.lift
  refine wait_wp m ρ K 1 c d hd _ (fun Q => ?_) Kt
  rw [wpE_waitDma2_eq, credit_sSl d]
  rfl
theorem dsStep_wp (c : Dev nD) (d : Fin 32) (hd : d ≠ 0) (Kt : PUnit → sProp 𝕄) :
    iprop((records m ρ K ∗ Owes c 0) ∗ waitPre 0 c d ∗ (((records m ρ K ∗ Owes c 0) ∗ waitPost m ρ 0 c d) -∗ Kt ⟨⟩))
      ⊢ wpc c (dsStep (F := F) c d) Kt := by
  unfold dsStep Prog.lift
  refine wait_wp m ρ K 0 c d hd _ (fun Q => ?_) Kt
  rw [wpE_waitDma2_eq, credit_ySl c d]
  rfl
theorem asStep_wp (c : Dev nD) (d : Fin 32) (hd : d ≠ 0) (Kt : PUnit → sProp 𝕄) :
    iprop((records m ρ K ∗ Owes c 0) ∗ waitPre 2 c d ∗ (((records m ρ K ∗ Owes c 0) ∗ waitPost m ρ 2 c d) -∗ Kt ⟨⟩))
      ⊢ wpc c (asStep (F := F) d) Kt := by
  unfold asStep Prog.lift
  refine wait_wp m ρ K 2 c d hd _ (fun Q => ?_) Kt
  rw [wpE_waitDma2_eq, credit_aSl 0]
  rfl

/-! ## The output -/

def oPts (c : Dev nD) (p : Fin 32) (f : Buf (Elt F) ((c : Thread nD τ).loc cc0_stg2_0)) : sProp 𝕄 :=
  ((c : Thread nD τ).loc cc0_stg2_0) ↦[rowsSet p]{fullShare} f

def outPre (c : Dev nD) (d : Fin 32) : sProp 𝕄 :=
  iprop((∃ f, oPts c (slotOf (back c d)) f) ∗ sPts c d (stackY (landY m ρ c)))
def outPost (c : Dev nD) (d : Fin 32) : sProp 𝕄 :=
  iprop(oPts c (slotOf (back c d)) (outAt m ρ c) ∗ sPts c d (stackY (landY m ρ c)))

theorem outB_back (c : Dev nD) (d : Fin 32) :
    k0_pay40 (scaleOf m ρ c) (landY m ρ c d) = outB m ρ c (slotOf (back c d)) := by
  unfold outB landY; rfl

theorem out_written (c : Dev nD) (d : Fin 32) (f : Buf (Elt F) ((c : Thread nD τ).loc cc0_stg2_0)) :
    (((c : Thread nD τ).loc cc0_stg2_0) ↦[rowsSet (slotOf (back c d))]{fullShare}
        ((oM.access (rO c d)).write (Elt F) f (outB m ρ c (slotOf (back c d))) Finset.univ) : sProp 𝕄)
      ⊢ ((c : Thread nD τ).loc cc0_stg2_0) ↦[rowsSet (slotOf (back c d))]{fullShare} (outAt m ρ c) :=
  Entails.of_eq (pointsTo_congr fun i hi => write_oO (outB m ρ c) c d f i (by rw [set_oA]; exact hi))

theorem outStep_wp (c : Dev nD) (d : Fin 32) (Kt : PUnit → sProp 𝕄) :
    iprop(emp ∗ outPre m ρ c d ∗ ((emp ∗ outPost m ρ c d) -∗ Kt ⟨⟩))
      ⊢ wpc c (outStep c (scaleOf m ρ c) d) Kt := by
  unfold wpc outStep outPre outPost oPts sPts
  simp only [Prog.lift, Prog.bind_op, Prog.bind_ret, Prog.pure_eq_ret]
  iintro ⟨-, ⟨⟨%f, Ho⟩, Hs⟩, Hk⟩
  iapply (wp_load 𝒱₀ (c : Thread nD τ) none Set.univ (m := sM) (S := (rY d).set) (touch_sY d)) $$ Hs
  iintro Hs
  rw [read_sY, outB_back]
  iapply (wp_load 𝒱₀ (c : Thread nD τ) none Set.univ (m := oM) (S := rowsSet (slotOf (back c d)))
    (touch_oO c d)) $$ Ho
  iintro Ho
  iapply (wp_store 𝒱₀ (c : Thread nD τ) none Set.univ (m := oM) (r := rO c d) (Mk := Finset.univ) (S := rowsSet (slotOf (back c d)))
    (puts_oO c d)) $$ Ho
  iintro Ho
  rw [wp_ret]; imodintro
  iapply Hk
  isplitr; · iempintro
  isplitl [Ho]
  · iapply (out_written m ρ c d f); iexact Ho
  iexact Hs

end Cert.RowsProof

end
-- ==== Proof.Parts.lean ====
/-
# Buffers cut into slots, and conjunctions over slots

A scratch buffer held whole is held slot by slot; the staged product may be read by the distance to the device a
slot is meant for, and the output by the distance to the device its rows come from. The slot with the own maxima is
held in shares, one for each copy and one for the load.
-/
module

public import proofs.«01_k».proof.Proof.Phases
public import Idealize.ShloMosaic.Lib.Ring

@[expose] public section

noncomputable section

namespace Cert.RowsProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Conjunctions -/

theorem both {P Q : sProp 𝕄} (h : P ⊢ Q) (h' : Q ⊢ P) : P = Q := Entails.antisymm h h'
theorem swap (P Q : sProp 𝕄) : iprop(P ∗ Q) = iprop(Q ∗ P) := both sep_comm.mp sep_comm.mp
theorem regroup (P Q R : sProp 𝕄) : iprop(P ∗ Q ∗ R) = iprop((P ∗ Q) ∗ R) := both sep_assoc.mpr sep_assoc.mp

theorem far_sep (A B : Fin 32 → sProp 𝕄) : bigSepL far (fun d => iprop(A d ∗ B d)) = iprop(bigSepL far A ∗ bigSepL far B) := by
  rw [← sep_far, ← sep_far, ← sep_far, bigSep_sep']
theorem slots_sep (A B : Fin 32 → sProp 𝕄) : bigSepL slots (fun d => iprop(A d ∗ B d)) = iprop(bigSepL slots A ∗ bigSepL slots B) := by
  rw [← sep_slots, ← sep_slots, ← sep_slots, bigSep_sep']

/-- The cells of the four arrays: the unused entry of each, and the others. -/
theorem sep_own (Φ : Fin 4 × Fin 32 → sProp 𝕄) : bigSep Finset.univ Φ
    = iprop((Φ (0, 0) ∗ bigSepL far fun d => Φ (0, d)) ∗ (Φ (1, 0) ∗ bigSepL far fun d => Φ (1, d))
        ∗ (Φ (2, 0) ∗ bigSepL far fun d => Φ (2, d)) ∗ (Φ (3, 0) ∗ bigSepL far fun d => Φ (3, d))) := by
  rw [bigSep_univ_prod, bigSep_univ_eq_bigSepL [(0 : Fin 4), 1, 2, 3] (by decide) (by decide)]
  show iprop((bigSep Finset.univ fun d => Φ (0, d)) ∗ (bigSep Finset.univ fun d => Φ (1, d))
    ∗ (bigSep Finset.univ fun d => Φ (2, d)) ∗ (bigSep Finset.univ fun d => Φ (3, d))) = _
  rw [sep_zero, sep_zero, sep_zero, sep_zero]

/-- All the cells of a device: the barrier's and the four arrays'. -/
theorem sep_cells (Φ : CX → sProp 𝕄) : bigSep Finset.univ Φ = iprop(Φ none ∗ bigSep Finset.univ fun i => Φ (some i)) := by
  rw [bigSep_univ_equiv (Equiv.optionEquivSumPUnit (Fin 4 × Fin 32)).symm Φ, bigSep_univ_sum]
  rw [show (bigSep Finset.univ fun b : PUnit => Φ ((Equiv.optionEquivSumPUnit (Fin 4 × Fin 32)).symm (.inr b))) = Φ none from by
    rw [show (Finset.univ : Finset PUnit.{1}) = {⟨⟩} from rfl, bigSep_singleton]; rfl]
  exact swap _ _

/-! ## Buffers -/

/-- A buffer held whole is held part by part, over disjoint parts of which every element lies in one. -/
theorem parts {ℓ : Loc nD τ sig} (I : Fin 32 → Finset (Idx ℓ)) (hd : ∀ p p', p ≠ p' → Disjoint (I p) (I p'))
    (hm : ∀ i, ∃ p, i ∈ I p) (q : PosShare TreeShare) (f : Buf (Elt F) ℓ) :
    ((ℓ ↦{q} f) : sProp 𝕄) = bigSep Finset.univ fun p => ℓ ↦[I p]{q} f :=
  Ring.pointsTo_blocks I hd (Finset.eq_univ_iff_forall.mpr fun i => by
    obtain ⟨p, hp⟩ := hm i
    exact Finset.mem_biUnion.mpr ⟨p, Finset.mem_univ _, hp⟩) f

theorem y_slots (c : Dev nD) (f : Buf (Elt F) ((c : Thread nD τ).loc cc0_scratch0)) :
    ((((c : Thread nD τ).loc cc0_scratch0) ↦{fullShare} f) : sProp 𝕄) = bigSep Finset.univ fun p => yPts c p f :=
  parts (ℓ := (c : Thread nD τ).loc cc0_scratch0) (fun p => (rY p).set) rY_disj (fun i => ⟨_, mem_rY i⟩) fullShare f
theorem s_slots (c : Dev nD) (f : Buf (Elt F) ((c : Thread nD τ).loc cc0_scratch1)) :
    ((((c : Thread nD τ).loc cc0_scratch1) ↦{fullShare} f) : sProp 𝕄) = bigSep Finset.univ fun p => sPts c p f :=
  parts (ℓ := (c : Thread nD τ).loc cc0_scratch1) (fun p => (rY p).set) rY_disj (fun i => ⟨_, mem_rY i⟩) fullShare f
theorem a_slots (c : Dev nD) (q : PosShare TreeShare) (f : Buf (Elt F) ((c : Thread nD τ).loc cc0_scratch2)) :
    ((((c : Thread nD τ).loc cc0_scratch2) ↦{q} f) : sProp 𝕄) = bigSep Finset.univ fun p => aPts c p q f :=
  parts (ℓ := (c : Thread nD τ).loc cc0_scratch2) (fun p => (rA p).set) rA_disj (fun i => ⟨_, mem_rA i⟩) q f
theorem o_slots (c : Dev nD) (f : Buf (Elt F) ((c : Thread nD τ).loc cc0_stg2_0)) :
    ((((c : Thread nD τ).loc cc0_stg2_0) ↦{fullShare} f) : sProp 𝕄) = bigSep Finset.univ fun p => oPts c p f :=
  parts (ℓ := (c : Thread nD τ).loc cc0_stg2_0) rowsSet rows_disj
    (fun i => ⟨⟨_, rowBlock_lt i⟩, Finset.mem_filter.mpr ⟨Finset.mem_univ _, rfl⟩⟩) fullShare f

theorem some_slot (P : Fin 32 → Type) (Φ : (d : Fin 32) → P d → sProp 𝕄) (f : (d : Fin 32) → P d) (l : List (Fin 32)) :
    bigSepL l (fun d => Φ d (f d)) ⊢ bigSepL l fun d => iprop(∃ g, Φ d g) :=
  bigSepL_mono fun d _ => by iintro H; iexists (f d); iexact H

/-- The staging scratch, slot by slot at contents of their own, ready for the stores; -/
theorem y_open (c : Dev nD) (f : Buf (Elt F) ((c : Thread nD τ).loc cc0_scratch0)) :
    ((((c : Thread nD τ).loc cc0_scratch0) ↦{fullShare} f) : sProp 𝕄) ⊢ bigSepL slots fun p => iprop(∃ g, yPts c p g) := by
  rw [y_slots, sep_slots]
  exact some_slot _ (fun d g => yPts c d g) (fun _ => f) slots
/-- the slots by the distance of the device they are meant for, the own one first. -/
theorem y_around (c : Dev nD) (f : Buf (Elt F) ((c : Thread nD τ).loc cc0_scratch0)) :
    bigSepL slots (fun p => (yPts c p f : sProp 𝕄)) = iprop(yPts c (slotOf c) f ∗ bigSepL far fun d => yPts c (slotOf (peer c d)) f) := by
  rw [← sep_slots, bigSep_univ_equiv (around c) fun p => (yPts c p f : sProp 𝕄)]
  rw [show (fun d => (yPts c (around c d) f : sProp 𝕄)) = fun d => yPts c (slotOf (peer c d)) f from rfl, sep_zero]
  beta_reduce
  rw [peer_zero]
theorem y_close (c : Dev nD) (f : Buf (Elt F) ((c : Thread nD τ).loc cc0_scratch0)) :
    iprop(yPts c (slotOf c) f ∗ bigSepL far fun d => yPts c (slotOf (peer c d)) f)
      = ((((c : Thread nD τ).loc cc0_scratch0) ↦{fullShare} f) : sProp 𝕄) := by
  rw [y_slots, sep_slots, y_around]

/-- The landing slots: the own one, and the others by the distance at which they are handed over. -/
theorem s_open (c : Dev nD) (f : Buf (Elt F) ((c : Thread nD τ).loc cc0_scratch1)) :
    ((((c : Thread nD τ).loc cc0_scratch1) ↦{fullShare} f) : sProp 𝕄)
      ⊢ iprop(sPts c 0 f ∗ bigSepL far fun d => iprop(∃ g, sPts c (opp d) g)) := by
  rw [s_slots, sep_zero, sep_far_opp]
  exact sep_mono_right (some_slot _ (fun d g => sPts c (opp d) g) (fun _ => f) far)
theorem a_open (c : Dev nD) (f : Buf (Elt F) ((c : Thread nD τ).loc cc0_scratch2)) :
    ((((c : Thread nD τ).loc cc0_scratch2) ↦{fullShare} f) : sProp 𝕄)
      ⊢ iprop(aPts c 0 fullShare f ∗ bigSepL far fun d => iprop(∃ g, aPts c (opp d) fullShare g)) := by
  rw [a_slots, sep_zero, sep_far_opp]
  exact sep_mono_right (some_slot _ (fun d g => aPts c (opp d) fullShare g) (fun _ => f) far)
theorem s_close (c : Dev nD) (f : Buf (Elt F) ((c : Thread nD τ).loc cc0_scratch1)) :
    bigSepL slots (fun d => (sPts c d f : sProp 𝕄)) = ((((c : Thread nD τ).loc cc0_scratch1) ↦{fullShare} f) : sProp 𝕄) := by
  rw [s_slots, sep_slots]

/-- The output's rows by the distance of the device they come from. -/
theorem o_back (c : Dev nD) (f : Buf (Elt F) ((c : Thread nD τ).loc cc0_stg2_0)) :
    ((((c : Thread nD τ).loc cc0_stg2_0) ↦{fullShare} f) : sProp 𝕄) = bigSepL slots fun d => oPts c (slotOf (back c d)) f := by
  rw [o_slots, bigSep_univ_equiv (aback c) fun p => (oPts c p f : sProp 𝕄), ← sep_slots]; rfl
theorem o_open (c : Dev nD) (f : Buf (Elt F) ((c : Thread nD τ).loc cc0_stg2_0)) :
    ((((c : Thread nD τ).loc cc0_stg2_0) ↦{fullShare} f) : sProp 𝕄) ⊢ bigSepL slots fun d => iprop(∃ g, oPts c (slotOf (back c d)) g) := by
  rw [o_back]
  exact some_slot _ (fun d g => oPts c (slotOf (back c d)) g) (fun _ => f) slots

/-! ## Shares of the maxima -/

theorem a_halves (c : Dev nD) (p : Fin 32) (f : Buf (Elt F) ((c : Thread nD τ).loc cc0_scratch2)) :
    (aPts c p fullShare f : sProp 𝕄) = iprop(aPts c p fullShare.left f ∗ aPts c p fullShare.right f) :=
  Entails.antisymm (pointsTo_share (PosShare.mem_left_op_right fullShare)).mp (pointsTo_share (PosShare.mem_left_op_right fullShare)).mpr

/-- What stays of the right half when every copy has taken its share. -/
def aKeep (c : Dev nD) (f : Buf (Elt F) ((c : Thread nD τ).loc cc0_scratch2)) : sProp 𝕄 :=
  iprop(aPts c 0 (Transfers.shareDrop fullShare.right 32) f ∗ aPts c 0 (shr 0) f)

theorem a_shares (c : Dev nD) (f : Buf (Elt F) ((c : Thread nD τ).loc cc0_scratch2)) :
    (aPts c 0 fullShare.right f : sProp 𝕄) = iprop(aKeep c f ∗ bigSepL far fun d => aPts c 0 (shr d) f) := by
  have e := Transfers.pointsTo_toks (Ix := Unit) (Name := ℕ) (U := UU) (Lvl := ℕ) (ℓ := (c : Thread nD τ).loc cc0_scratch2)
    (S := (rA 0).set) (f := f) fullShare.right 32
  have h := Entails.antisymm e.mp e.mpr
  rw [sep_zero] at h
  unfold aKeep
  exact Eq.trans h (regroup _ _ _)

/-- The left halves of all slots make the whole buffer at the left share. -/
theorem a_left (c : Dev nD) (f : Buf (Elt F) ((c : Thread nD τ).loc cc0_scratch2)) :
    iprop(aPts c 0 fullShare.left f ∗ bigSepL far fun d => aPts c d fullShare.left f)
      = ((((c : Thread nD τ).loc cc0_scratch2) ↦{fullShare.left} f) : sProp 𝕄) := by
  rw [a_slots, sep_zero]
theorem far_halves (c : Dev nD) (f : Buf (Elt F) ((c : Thread nD τ).loc cc0_scratch2)) :
    bigSepL far (fun d => (aPts c d fullShare f : sProp 𝕄))
      = iprop((bigSepL far fun d => aPts c d fullShare.left f) ∗ bigSepL far fun d => aPts c d fullShare.right f) := by
  rw [← far_sep]
  exact congrArg _ (funext fun d => a_halves c d f)
/-- With all shares back the buffer is whole. -/
theorem a_close (c : Dev nD) (f : Buf (Elt F) ((c : Thread nD τ).loc cc0_scratch2)) :
    iprop((((c : Thread nD τ).loc cc0_scratch2) ↦{fullShare.left} f) ∗ (bigSepL far fun d => aPts c d fullShare.right f)
        ∗ aKeep c f ∗ bigSepL far fun d => aPts c 0 (shr d) f)
      ⊢ ((((c : Thread nD τ).loc cc0_scratch2) ↦{fullShare} f) : sProp 𝕄) := by
  rw [← a_shares, ← a_left, a_slots c fullShare f, sep_zero, a_halves c 0 f, far_halves]
  iintro ⟨⟨H0, HL⟩, HR, H1⟩
  isplitl [H0 H1]
  · isplitl [H0] <;> iassumption
  isplitl [HL] <;> iassumption

end Cert.RowsProof

end
-- ==== Proof.Body.lean ====
/-
# The body of one device

The proof data of the launch, and the body taken from what the launch deals a device to what it leaves: the phases
one after another, the buffers re-read between them.
-/
module

public import proofs.«01_k».proof.Proof.Parts
public import Idealize.ShloMosaic.Lib.Pipeline.Value

@[expose] public section

noncomputable section

namespace Cert.RowsProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CX → ℕ)

/-! ## What a device starts from and ends with -/

/-- The duty tokens of the copy at distance `d`: the four cells it credits. -/
def copyToks (c : Dev nD) (d : Fin 32) : sProp 𝕄 :=
  iprop(dutyTok ER (dmaCell 0 c d) 0 0 ∗ dutyTok ER (dmaCell 1 (peer c d) d) 0 0
    ∗ dutyTok ER (dmaCell 2 c d) 0 0 ∗ dutyTok ER (dmaCell 3 (peer c d) d) 0 0)
/-- The tokens of the duties device `c` pays. -/
def payToks (c : Dev nD) : sProp 𝕄 :=
  iprop((bigSepL far fun d => dutyTok ER (barCell (peer c d)) 0 (opp d)) ∗ bigSepL far (copyToks c))
/-- What is a device's own: its positions in the rounds, and these tokens. -/
def linear (c : Dev nD) : sProp 𝕄 :=
  iprop((bigSep Finset.univ fun x : CX => atPos ER (kcell (c, x)) 0 ∅ 0) ∗ payToks c)
/-- The credits dealt at launch for its waits on others. -/
def credits (c : Dev nD) : sProp 𝕄 :=
  iprop(cred (tallyAt (barCell c) () 31) ∗ (bigSepL far fun d => cred (tallyAt (dmaCell 1 c d) () NY))
    ∗ bigSepL far fun d => cred (tallyAt (dmaCell 3 c d) () NA))
def start (c : Dev nD) : sProp 𝕄 := iprop((∃ K, records m ρ K ∗ linear c) ∗ credits c ∗ levAts L lv)

def buf (c : Dev nD) (b : Ref sig .tc) (f : Buf (Elt F) ((c : Thread nD τ).loc b)) : sProp 𝕄 := ((c : Thread nD τ).loc b) ↦{fullShare} f
def Φ₀ (c : Dev nD) : sProp 𝕄 :=
  iprop(start m ρ c ∗ (∃ f, buf c cc0_scratch0 f) ∗ (∃ f, buf c cc0_scratch1 f) ∗ ∃ f, buf c cc0_scratch2 f)
/-- The semaphores of a device, back at zero. -/
def zeros (c : Dev nD) : sProp 𝕄 := bigSep Finset.univ fun i : Fin 4 × Fin 32 => semVal (kcell (c, some i)) 0
def Φ₁ (c : Dev nD) : sProp 𝕄 :=
  iprop(((∃ f, buf c cc0_scratch0 f) ∗ (∃ f, buf c cc0_scratch1 f) ∗ ∃ f, buf c cc0_scratch2 f)
    ∗ semVal (barCell c) 0 ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## Values -/

theorem zero2 : (![0, 0] : Fin 2 → Nat) = fun _ => 0 := funext fun a => by fin_cases a <;> rfl
theorem zero3 : (![0, 0, 0] : Fin 3 → Nat) = fun _ => 0 := funext fun a => by fin_cases a <;> rfl
theorem read_x (f : (cc0_stg0_0 : Ref sig .tc).ty.Contents (Elt F)) :
    xM.view.readAt (Elt F) (Rect.unit (s := S128x4096) ![0, 0] S128x4096.size inb_S128x4096_S128x4096_0_0).toLoadRect f = f :=
  Memref.readAt_unit_zero (Elt F) cc0_stg0_0 zero2 _ f
theorem read_w (f : (cc0_stg1_0 : Ref sig .tc).ty.Contents (Elt F)) :
    wM.view.readAt (Elt F) (Rect.unit (s := S4096x2048) ![0, 0] S4096x2048.size inb_S4096x2048_S4096x2048_0_0).toLoadRect f = f :=
  Memref.readAt_unit_zero (Elt F) cc0_stg1_0 zero2 _ f
theorem read_a (f : (cc0_scratch2 : Ref sig .tc).ty.Contents (Elt F)) :
    aM.view.readAt (Elt F) (Rect.unit (s := S32x8x128) ![0, 0, 0] S32x8x128.size inb_S32x8x128_S32x8x128_0_0_0).toLoadRect f = f :=
  Memref.readAt_unit_zero (Elt F) cc0_scratch2 zero3 _ f
theorem prodOf_eq (c : Dev nD) : k0_pay1 (xstg m ρ c) (wstg m ρ c) = prodOf m ρ c := rfl
theorem scaleOf_eq (c : Dev nD) : k0_pay38 (stackA (landA m ρ c)) = scaleOf m ρ c := rfl

/-- The own block of the staged product, as the body names its slot. -/
abbrev rSelf (c : Dev nD) : Rect S32x128x64 := Rect.unit (s := S32x128x64) (k0_off1 c) S1x128x64.size (k0_off1_inb c)
theorem touch_self (c : Dev nD) : yM.view.setOn (rSelf c).toLoadRect.set ⊆ (rY (slotOf c)).set := by
  rw [← rSelf_eq]; exact touch_whole (b := cc0_scratch0) (rSelf c)
theorem read_slot (B : Fin 32 → S1x128x64.Idx → Elt F .f32) (p : Fin 32) (off : Fin 3 → ℕ) (h : off = ![p.val, 0, 0])
    (inb : ∀ a, off a + S1x128x64.size a ≤ S32x128x64.size a) :
    yM.view.readAt (Elt F) (Rect.unit (s := S32x128x64) off S1x128x64.size inb).toLoadRect (stackY B) = B p := by
  subst h; exact read_yY B p
theorem read_self (c : Dev nD) :
    yM.view.readAt (Elt F) (rSelf c).toLoadRect (stackY (stagedY m ρ c)) = stagedY m ρ c (slotOf c) :=
  read_slot _ _ _ (k0_off1_eq c) _

theorem same_block (b : FVec F S1x128x64 .f32) : k0_pay37 b = b := by
  unfold k0_pay37; exact shapeCast_shapeCast _ _ _
theorem own_block (c : Dev nD) : k0_pay37 (stagedY m ρ c (slotOf c)) = landY m ρ c 0 := by
  rw [same_block]; unfold stagedY landY; rw [back_zero]
theorem own_max (c : Dev nD) : k0_pay36 (prodOf m ρ c) = landA m ρ c 0 := by
  unfold landA; rw [back_zero]

theorem s_written (c : Dev nD) (f : Buf (Elt F) ((c : Thread nD τ).loc cc0_scratch1)) :
    (((c : Thread nD τ).loc cc0_scratch1) ↦[(rY 0).set]{fullShare}
        ((sM.access (rY 0)).write (Elt F) f (landY m ρ c 0) Finset.univ) : sProp 𝕄)
      ⊢ sPts c 0 (stackY (landY m ρ c)) :=
  Entails.of_eq (pointsTo_congr fun i hi => write_sY (landY m ρ c) 0 f i (by rw [set_sA]; exact hi))
theorem a_written (c : Dev nD) (f : Buf (Elt F) ((c : Thread nD τ).loc cc0_scratch2)) :
    (((c : Thread nD τ).loc cc0_scratch2) ↦[(rA 0).set]{fullShare}
        ((aM.access (rA 0)).write (Elt F) f (landA m ρ c 0) Finset.univ) : sProp 𝕄)
      ⊢ aPts c 0 fullShare (stackA (landA m ρ c)) :=
  Entails.of_eq (pointsTo_congr fun i hi => write_aA (landA m ρ c) 0 f i (by rw [set_aA]; exact hi))

theorem y_held (c : Dev nD) (p : Fin 32) (f : Buf (Elt F) ((c : Thread nD τ).loc cc0_scratch0)) :
    ((yM.view.loc (c : Thread nD τ) ↦[(rY p).set]{fullShare} f) : sProp 𝕄) ⊢ yPts c p f := BI.Entails.refl _

/-! ## Regroupings between the phases -/

theorem sigs_ready (c : Dev nD) :
    iprop((bigSepL far fun d => dutyTok ER (barCell (peer c d)) 0 (opp d)) ∗ (bigSepL far fun d => iprop(∃ f, sPts c (opp d) f))
        ∗ bigSepL far fun d => iprop(∃ f, aPts c (opp d) fullShare f))
      ⊢ (bigSepL far (sigPre c) : sProp 𝕄) := by
  unfold sigPre
  rw [far_sep, far_sep]
theorem rest_bar (c : Dev nD) :
    bigSep ((rowsRd (F := F) m ρ).duties (barCell c) 0 \ ∅) (fun e => (rowsRd (F := F) m ρ).payload (barCell c) 0 e)
      = bigSepL far (barPay c) := by
  rw [Finset.sdiff_empty, duties_bar, bigSep_congr fun e _ => payload_bar m ρ c e, sep_far]
theorem copies_ready (c : Dev nD) :
    iprop((bigSepL far fun d => yPts c (slotOf (peer c d)) (stackY (stagedY m ρ c)))
        ∗ (bigSepL far fun d => aPts c 0 (shr d) (stackA (landA m ρ c))) ∗ bigSepL far (barPay c) ∗ bigSepL far (copyToks c))
      ⊢ (bigSepL far (copyPre m ρ c) : sProp 𝕄) := by
  rw [← far_sep, ← far_sep, ← far_sep]; exact BI.Entails.refl _
theorem copies_done (c : Dev nD) :
    (bigSepL far (copyPost c) : sProp 𝕄)
      ⊢ iprop((bigSepL far fun d => cred (tallyAt (dmaCell 0 c d) () NY)) ∗ bigSepL far fun d => cred (tallyAt (dmaCell 2 c d) () NA)) := by
  rw [← far_sep]; exact BI.Entails.refl _
theorem waits_ready (k : Fin 4) (c : Dev nD) (N : ℕ) (h : credN k.val = N) :
    iprop((bigSepL far fun d => cred (tallyAt (dmaCell k c d) () N)) ∗ bigSepL far fun d => atPos ER (dmaCell k c d) 0 ∅ 0)
      ⊢ (bigSepL far (waitPre k c) : sProp 𝕄) := by
  subst h; rw [← far_sep]; exact BI.Entails.refl _
theorem waits_done (k : Fin 4) (c : Dev nD) (P : Fin 32 → sProp 𝕄) (h : dmaPay m ρ k.val c = P) :
    (bigSepL far (waitPost m ρ k c) : sProp 𝕄)
      ⊢ iprop(bigSepL far P ∗ bigSepL far fun d => semVal (dmaCell k c d) 0) := by
  subst h; rw [← far_sep]; exact BI.Entails.refl _
theorem pay_0 (c : Dev nD) : dmaPay m ρ (0 : Fin 4).val c = fun d => yPts c (slotOf (peer c d)) (stackY (stagedY m ρ c)) := rfl
theorem pay_1 (c : Dev nD) : dmaPay m ρ (1 : Fin 4).val c = fun d => sPts c d (stackY (landY m ρ c)) := rfl
theorem pay_2 (c : Dev nD) : dmaPay m ρ (2 : Fin 4).val c = fun d => aPts c 0 (shr d) (stackA (landA m ρ c)) := rfl
theorem pay_3 (c : Dev nD) : dmaPay m ρ (3 : Fin 4).val c = fun d => aPts c d fullShare (stackA (landA m ρ c)) := rfl
theorem cred_y (k : ℕ) (h : k < 2) : credN k = NY := if_pos h
theorem cred_a (k : ℕ) (h : ¬k < 2) : credN k = NA := if_neg h
theorem outs_ready (c : Dev nD) :
    iprop((bigSepL slots fun d => iprop(∃ f, oPts c (slotOf (back c d)) f)) ∗ sPts c 0 (stackY (landY m ρ c))
        ∗ bigSepL far fun d => sPts c d (stackY (landY m ρ c)))
      ⊢ (bigSepL slots (outPre m ρ c) : sProp 𝕄) := by
  rw [← bigSepL_cons' (0 : Fin 32) far (fun d => (sPts c d (stackY (landY m ρ c)) : sProp 𝕄)), ← slots_sep]; exact BI.Entails.refl _
theorem outs_done (c : Dev nD) :
    (bigSepL slots (outPost m ρ c) : sProp 𝕄)
      ⊢ iprop(buf c cc0_stg2_0 (outAt m ρ c) ∗ buf c cc0_scratch1 (stackY (landY m ρ c))) := by
  unfold buf
  rw [o_back, ← s_close, ← slots_sep]; exact BI.Entails.refl _

/-- The unused entry of an array closes without having been waited for. -/
theorem close_unused (k : Fin 4) (c : Dev nD) :
    iprop(records m ρ K ∗ atPos ER (dmaCell k c 0) 0 ∅ 0) ⊢ |={Set.univ}=> semVal (dmaCell k c 0) 0 := by
  iintro ⟨#HK, Hat⟩
  ihave Hr := (record_at m ρ K (c, some (k, 0))) $$ HK
  icases Hr with ⟨#HI, -⟩
  iapply (Rounds.cell_close ER (rowsRd m ρ) (Set.mem_univ (K (c, some (k, 0)))) (fun h => h) (R := 0)
    (fun r _ => duties_dma0 m ρ c k r))
  isplitr; · iexact HI
  iexact Hat

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- From the three scratch buffers, the staged arguments and the output's staging buffer to the same with the output in
    place. -/
def bodyPre (c : Dev nD) : sProp 𝕄 :=
  iprop((records m ρ K ∗ linear c ∗ credits c ∗ levAts L lv)
    ∗ ((∃ f, buf c cc0_scratch0 f) ∗ (∃ f, buf c cc0_scratch1 f) ∗ ∃ f, buf c cc0_scratch2 f)
    ∗ Owes c (O₀ c)
    ∗ buf c cc0_stg0_0 (xstg m ρ c) ∗ buf c cc0_stg1_0 (wstg m ρ c) ∗ ∃ f, buf c cc0_stg2_0 f)
def bodyPost (c : Dev nD) : sProp 𝕄 :=
  iprop(Φ₁ c ∗ Owes c 0 ∗ buf c cc0_stg0_0 (xstg m ρ c) ∗ buf c cc0_stg1_0 (wstg m ρ c) ∗ buf c cc0_stg2_0 (outAt m ρ c))

set_option maxHeartbeats 1600000 in
theorem body_wp (c : Dev nD) (Kt : PUnit → sProp 𝕄) :
    iprop(bodyPre m ρ K c ∗ (bodyPost m ρ c -∗ Kt ⟨⟩)) ⊢ wpc c (prog (F := F)) Kt := by
  unfold wpc prog
  simp only [semWaitWord, Prog.lift, Prog.bind_op, Prog.bind_ret, Prog.pure_eq_ret, wp_deviceId]
  unfold bodyPre linear payToks credits
  rw [sep_cells, sep_own]
  iintro ⟨⟨⟨#HK, ⟨⟨HatB, ⟨Hz0, Hat0⟩, ⟨Hz1, Hat1⟩, ⟨Hz2, Hat2⟩, ⟨Hz3, Hat3⟩⟩, HtB, HtC⟩, ⟨HcB, Hc1, Hc3⟩, #Hlev⟩,
    ⟨⟨%fy, Hy⟩, ⟨%fs, Hs⟩, ⟨%fa, Ha⟩⟩, HO, Hx, Hw, ⟨%fo, Ho⟩⟩, Hk⟩
  unfold buf O₀
  ihave Hy := (y_open c fy) $$ Hy
  ihave Hs := (s_open c fs) $$ Hs
  icases Hs with ⟨Hs0, Hs⟩
  ihave Ha := (a_open c fa) $$ Ha
  icases Ha with ⟨Ha0, Ha⟩
  -- the signals
  ihave Hpre := (sigs_ready (F := F) c) $$ [HtB Hs Ha]
  · isplitl [HtB]; · iexact HtB
    isplitl [Hs] <;> iassumption
  rw [wp_bind]
  iapply (wp_each c (sigStep c) (sigPre c) (fun _ => iprop(emp)) (fun ds => iprop(records m ρ K ∗ Owes c (sigO c ds))) far
    (fun d hd rest Kt => sigStep_wp m ρ K c d (far_ne d hd) rest Kt))
  isplitl [HO]
  · isplitr; · iexact HK
    iexact HO
  isplitl [Hpre]; · iexact Hpre
  iintro ⟨⟨-, HO⟩, -⟩
  -- the barrier wait
  ihave Hr := (record_at m ρ K (c, none)) $$ HK
  icases Hr with ⟨#HIB, -⟩
  unfold Owes
  icases HO with ⟨%W, HO⟩
  iapply (Rounds.wp_wait_rest_token 𝒱₀ ER (rowsRd m ρ) (c : Thread nD τ) none (κ := K (c, none))
      (wpE_semWait_eq 𝒱₀ (c : Thread nD τ) none Set.univ) (Set.mem_univ _) () (O := sendO c far) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hbar := (Entails.of_eq (rest_bar m ρ c)) $$ Hpay
  imod (Rounds.cell_close ER (rowsRd m ρ) (Set.mem_univ (K (c, none))) (fun h => h) (R := 0 + 1) (duties_later m ρ (barCell c))) $$ [HatB] with HzB
  · isplitr; · iexact HIB
    iexact HatB
  -- the product, staged slot by slot
  iapply (wp_load 𝒱₀ (c : Thread nD τ) none Set.univ (m := xM) (Finset.subset_univ _)) $$ Hx; iintro Hx
  rw [read_x]
  iapply (wp_load 𝒱₀ (c : Thread nD τ) none Set.univ (m := wM) (Finset.subset_univ _)) $$ Hw; iintro Hw
  rw [read_w, prodOf_eq, wp_bind]
  iapply (wp_each c (putStep (prodOf m ρ c)) (fun p => iprop(∃ f, yPts c p f)) (fun p => yPts c p (stackY (stagedY m ρ c)))
    (fun _ => iprop(emp)) slots (fun p _ _ Kt => putStep_wp m ρ c p Kt))
  isplitr; · iempintro
  isplitl [Hy]; · iexact Hy
  iintro ⟨-, Hy⟩
  ihave Hy := (Entails.of_eq (y_around c (stackY (stagedY m ρ c)))) $$ Hy
  icases Hy with ⟨Hy0, Hy⟩
  -- the own maximum and the own block
  unfold aPts yPts sPts
  iapply (wp_load 𝒱₀ (c : Thread nD τ) none Set.univ (m := aM) (S := (rA 0).set) (touch_aA 0)) $$ Ha0; iintro Ha0
  iapply (wp_store 𝒱₀ (c : Thread nD τ) none Set.univ (m := aM) (r := rA 0) (Mk := Finset.univ) (S := (rA 0).set) (puts_aA 0)) $$ Ha0; iintro Ha0
  rw [own_max]
  ihave Ha0 := (a_written m ρ c fa) $$ Ha0
  iapply (wp_load 𝒱₀ (c : Thread nD τ) none Set.univ (m := yM) (S := (rY (slotOf c)).set) (touch_self c)) $$ Hy0; iintro Hy0
  rw [read_self, own_block]
  iapply (wp_load 𝒱₀ (c : Thread nD τ) none Set.univ (m := sM) (S := (rY 0).set) (touch_sY 0)) $$ Hs0; iintro Hs0
  iapply (wp_store 𝒱₀ (c : Thread nD τ) none Set.univ (m := sM) (r := rY 0) (Mk := Finset.univ) (S := (rY 0).set) (puts_sY 0)) $$ Hs0; iintro Hs0
  ihave Hs0 := (s_written m ρ c fs) $$ Hs0
  -- the copies
  ihave Ha0 := (Entails.of_eq ((a_halves c 0 (stackA (landA m ρ c))))) $$ Ha0
  icases Ha0 with ⟨HaL, HaR⟩
  ihave HaR := (Entails.of_eq (a_shares c (stackA (landA m ρ c)))) $$ HaR
  icases HaR with ⟨HaK, Has⟩
  ihave Hpre := (copies_ready m ρ c) $$ [Hy Has Hbar HtC]
  · isplitl [Hy]; · iexact Hy
    isplitl [Has]; · iexact Has
    isplitl [Hbar] <;> iassumption
  rw [wp_bind]
  iapply (wp_each c (copyStep c) (copyPre m ρ c) (copyPost c) (fun ds => iprop(records m ρ K ∗ Owes c (sendO c ds))) far
    (fun d hd rest Kt => copyStep_wp m ρ K c d (far_ne d hd) rest Kt))
  isplitl [HO]
  · isplitr; · iexact HK
    unfold Owes; iexists _; iexact HO
  isplitl [Hpre]; · iexact Hpre
  iintro ⟨⟨-, HO⟩, Hpost⟩
  ihave Hcs := (copies_done (F := F) c) $$ Hpost
  icases Hcs with ⟨Hc0, Hc2⟩
  -- the waits for the maxima and for the blocks
  ihave Hpre := (waits_ready (F := F) 3 c _ (cred_a _ (by decide))) $$ [Hc3 Hat3]
  · isplitl [Hc3] <;> iassumption
  rw [wp_bind]
  iapply (wp_each c arStep (waitPre 3 c) (waitPost m ρ 3 c) (fun _ => iprop(records m ρ K ∗ Owes c 0)) far
    (fun d hd _ Kt => arStep_wp m ρ K c d (far_ne d hd) Kt))
  isplitl [HO]
  · isplitr; · iexact HK
    iexact HO
  isplitl [Hpre]; · iexact Hpre
  iintro ⟨⟨-, HO⟩, Hpost⟩
  ihave Hp := (waits_done m ρ 3 c _ (pay_3 m ρ c)) $$ Hpost
  icases Hp with ⟨Ha, Hv3⟩
  ihave Hpre := (waits_ready (F := F) 1 c _ (cred_y _ (by decide))) $$ [Hc1 Hat1]
  · isplitl [Hc1] <;> iassumption
  rw [wp_bind]
  iapply (wp_each c (drStep c) (waitPre 1 c) (waitPost m ρ 1 c) (fun _ => iprop(records m ρ K ∗ Owes c 0)) far
    (fun d hd _ Kt => drStep_wp m ρ K c d (far_ne d hd) Kt))
  isplitl [HO]
  · isplitr; · iexact HK
    iexact HO
  isplitl [Hpre]; · iexact Hpre
  iintro ⟨⟨-, HO⟩, Hpost⟩
  ihave Hp := (waits_done m ρ 1 c _ (pay_1 m ρ c)) $$ Hpost
  icases Hp with ⟨Hs, Hv1⟩
  -- the load of all maxima, at the left share
  ihave Ha := (Entails.of_eq (far_halves c (stackA (landA m ρ c)))) $$ Ha
  icases Ha with ⟨HaLs, HaRs⟩
  ihave HaW := (Entails.of_eq (a_left c (stackA (landA m ρ c)))) $$ [HaL HaLs]
  · isplitl [HaL] <;> iassumption
  iapply (wp_load 𝒱₀ (c : Thread nD τ) none Set.univ (m := aM) (Finset.subset_univ _)) $$ HaW; iintro HaW
  rw [read_a, scaleOf_eq]
  -- the output
  ihave Ho := (o_open c fo) $$ Ho
  ihave Hpre := (outs_ready m ρ c) $$ [Ho Hs0 Hs]
  · isplitl [Ho]; · iexact Ho
    isplitl [Hs0] <;> iassumption
  rw [wp_bind]
  iapply (wp_each c (outStep c (scaleOf m ρ c)) (outPre m ρ c) (outPost m ρ c) (fun _ => iprop(emp)) slots
    (fun d _ _ Kt => outStep_wp m ρ c d Kt))
  isplitr; · iempintro
  isplitl [Hpre]; · iexact Hpre
  iintro ⟨-, Hpost⟩
  ihave Hp := (outs_done m ρ c) $$ Hpost
  icases Hp with ⟨Ho, Hs⟩
  -- the waits for the own sends
  ihave Hpre := (waits_ready (F := F) 0 c _ (cred_y _ (by decide))) $$ [Hc0 Hat0]
  · isplitl [Hc0] <;> iassumption
  rw [wp_bind]
  iapply (wp_each c (dsStep c) (waitPre 0 c) (waitPost m ρ 0 c) (fun _ => iprop(records m ρ K ∗ Owes c 0)) far
    (fun d hd _ Kt => dsStep_wp m ρ K c d (far_ne d hd) Kt))
  isplitl [HO]
  · isplitr; · iexact HK
    iexact HO
  isplitl [Hpre]; · iexact Hpre
  iintro ⟨⟨-, HO⟩, Hpost⟩
  ihave Hp := (waits_done m ρ 0 c _ (pay_0 m ρ c)) $$ Hpost
  icases Hp with ⟨Hy, Hv0⟩
  imod (close_unused m ρ K 0 c) $$ [Hz0] with Hz0
  · isplitr; · iexact HK
    iexact Hz0
  imod (close_unused m ρ K 1 c) $$ [Hz1] with Hz1
  · isplitr; · iexact HK
    iexact Hz1
  imod (close_unused m ρ K 2 c) $$ [Hz2] with Hz2
  · isplitr; · iexact HK
    iexact Hz2
  imod (close_unused m ρ K 3 c) $$ [Hz3] with Hz3
  · isplitr; · iexact HK
    iexact Hz3
  ihave Hpre := (waits_ready (F := F) 2 c _ (cred_a _ (by decide))) $$ [Hc2 Hat2]
  · isplitl [Hc2] <;> iassumption
  iapply (wp_each c asStep (waitPre 2 c) (waitPost m ρ 2 c) (fun _ => iprop(records m ρ K ∗ Owes c 0)) far
    (fun d hd _ Kt => asStep_wp m ρ K c d (far_ne d hd) Kt))
  isplitl [HO]
  · isplitr; · iexact HK
    iexact HO
  isplitl [Hpre]; · iexact Hpre
  iintro ⟨⟨-, HO⟩, Hpost⟩
  ihave Hp := (waits_done m ρ 2 c _ (pay_2 m ρ c)) $$ Hpost
  icases Hp with ⟨Has, Hv2⟩
  -- everything back
  ihave Hy0 := (y_held c (slotOf c) (stackY (stagedY m ρ c))) $$ Hy0
  ihave Hy := (Entails.of_eq (y_close c (stackY (stagedY m ρ c)))) $$ [Hy0 Hy]
  · isplitl [Hy0]; · iexact Hy0
    iexact Hy
  ihave Ha := (a_close c (stackA (landA m ρ c))) $$ [HaW HaRs HaK Has]
  · isplitl [HaW]; · iexact HaW
    isplitl [HaRs]; · iexact HaRs
    isplitl [HaK] <;> iassumption
  iapply Hk
  unfold bodyPost Φ₁ zeros buf
  rw [sep_own]
  isplitl [Hs Hy Ha HzB Hz0 Hz1 Hz2 Hz3 Hv0 Hv1 Hv2 Hv3]
  · isplitl [Hs Hy Ha]
    · isplitl [Hy]; · iexists _; iexact Hy
      isplitl [Hs]; · iexists _; iexact Hs
      iexists _; iexact Ha
    isplitl [HzB]; · iexact HzB
    isplitl [Hz0 Hv0]
    · isplitl [Hz0] <;> iassumption
    isplitl [Hz1 Hv1]
    · isplitl [Hz1] <;> iassumption
    isplitl [Hz2 Hv2]
    · isplitl [Hz2] <;> iassumption
    isplitl [Hz3] <;> iassumption
  isplitl [HO]; · iexact HO
  isplitl [Hx]; · iexact Hx
  isplitl [Hw]; · iexact Hw
  iexact Ho

end Cert.RowsProof

end
-- ==== Proof.Deal.lean ====
/-
# What the launch deals

The ghost state of the protocol: every cell of every device, its invariant, its position and its duty tokens. Tokens
are minted at the cell they belong to and handed to the device that pays the duty; the credits each device waits with
come from what the others owe.
-/
module

public import proofs.«01_k».proof.Proof.Body

@[expose] public section

noncomputable section

namespace Cert.RowsProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens -/

theorem osem_inj : Function.Injective osem := by
  rintro ⟨k, d⟩ ⟨k', d'⟩ h
  have h1 : dmaS k d = dmaS k' d' := SemLoc.dma.inj h
  have h2 := congrArg Fin.val h1
  rw [dmaS_val, dmaS_val] at h2
  have hk := k.isLt; have hk' := k'.isLt; have hd := d.isLt; have hd' := d'.isLt
  have e1 : k = k' := Fin.ext (by omega)
  have e2 : d = d' := Fin.ext (by omega)
  rw [e1, e2]
theorem csem_inj : Function.Injective csem
  | none, none, _ => rfl
  | some i, some j, h => congrArg some (osem_inj h)
  | none, some j, h => absurd h (fun h => by cases h)
  | some i, none, h => absurd h (fun h => by cases h)
theorem kcell_inj : Function.Injective kcell := by
  rintro ⟨c, x⟩ ⟨c', x'⟩ h
  have h1 : c = c' := congrArg (fun g : GSem nD τ sig => g.1.1) h
  have h2 : x = x' := csem_inj (congrArg Prod.snd h)
  subst h1; subst h2; rfl

def allCells : Finset (GSem nD τ sig) := Finset.univ.map ⟨kcell, kcell_inj⟩

/-- A duty: at a device's barrier cell, one per distance; at each cell of its arrays, one. -/
abbrev tokOf (x : Dev nD × (Fin 32 ⊕ (Fin 4 × Fin 32))) : GSem nD τ sig × ℕ × Fin 32 := match x.2 with
  | .inl e => (barCell x.1, 0, e)
  | .inr i => (kcell (x.1, some i), 0, 0)
theorem tokOf_inj : Function.Injective tokOf := by
  rintro ⟨c, x⟩ ⟨c', x'⟩ h
  have h1 : c = c' := by
    have := congrArg (fun x : GSem nD τ sig × ℕ × Fin 32 => x.1.1.1) h
    cases x <;> cases x' <;> exact this
  subst h1
  have h2 := congrArg (fun x : GSem nD τ sig × ℕ × Fin 32 => x.1.2) h
  have h3 := congrArg (fun x : GSem nD τ sig × ℕ × Fin 32 => x.2.2) h
  cases x with
  | inl e => cases x' with
    | inl e' => have h3 : e = e' := h3; rw [h3]
    | inr i => cases h2
  | inr i => cases x' with
    | inl e => cases h2
    | inr i' => have h4 : i = i' := osem_inj h2; rw [h4]
def allToks : Finset (GSem nD τ sig × ℕ × Fin 32) := Finset.univ.map ⟨tokOf, tokOf_inj⟩

/-- The tokens of device `c`'s own cells. -/
def toks (c : Dev nD) : sProp 𝕄 :=
  iprop((bigSep Finset.univ fun e : Fin 32 => dutyTok ER (barCell c) 0 e)
    ∗ bigSep Finset.univ fun i : Fin 4 × Fin 32 => dutyTok ER (kcell (c, some i)) 0 0)

/-- What the launch element deals device `c`. -/
def dealt (c : Dev nD) : sProp 𝕄 :=
  iprop((bigSep Finset.univ fun x : CX => roundState ER (rowsRd m ρ) (kcell (c, x)) 0)
    ∗ (bigSep Finset.univ fun x : CX => reached ER (kcell (c, x)) 0)
    ∗ (bigSep Finset.univ fun x : CX => atPos ER (kcell (c, x)) 0 ∅ 0) ∗ toks c)
/-- What the global step makes of it. -/
def held (c : Dev nD) : sProp 𝕄 := iprop(∃ K, records m ρ K ∗ linear c)

theorem fund_rows : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun x : CX => Φ (kcell (c, x)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (rowsRd m ρ) allCells allToks) $$ HX with ⟨Hst, Hr, Hat, Htok⟩
  imodintro
  ihave Hst := (Entails.of_eq (hX fun g => roundState ER (rowsRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hr]; · iexact Hr
  isplitl [Hat] <;> iassumption

/-! ## The semaphores -/

theorem own_zeros (c : Dev nD) :
    (Pipeline.ownSems0 (Ix := Unit) (Name := ℕ) (U := UU) (Lvl := ℕ) (Val := Elt F) (τ := τ) osem c : sProp 𝕄) = zeros c := rfl
theorem unscoped_bar (c : Dev nD) : (unscopedSems0 c : sProp 𝕄) = semVal (barCell c) 0 := by
  unfold unscopedSems0; rw [bigSep_eq_bigSepL_of_eq [SemLoc.reg barS] (by decide +kernel) (by decide)]; rfl

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun x : CX => iprop(∃ κ : ℕ, cellInv ER (rowsRd m ρ) κ (kcell (c, x))))
          ∗ (bigSep Finset.univ fun x : CX => reached ER (kcell (c, x)) 0)
          ∗ (bigSep Finset.univ fun x : CX => atPos ER (kcell (c, x)) 0 ∅ 0) ∗ toks c) := by
  unfold dealt
  rw [own_zeros, unscoped_bar]
  iintro ⟨Hz, Hb, Hst, Hr, Hat, Htok⟩
  ihave Hv := (Entails.of_eq (sep_cells (F := F) fun x => semVal (kcell (c, x)) 0).symm) $$ [Hz Hb]
  · isplitl [Hb]; · iexact Hb
    unfold zeros; iexact Hz
  imod (show iprop((bigSep Finset.univ fun x : CX => semVal (kcell (c, x)) 0) ∗ bigSep Finset.univ fun x : CX => roundState ER (rowsRd m ρ) (kcell (c, x)) 0)
      ⊢ (|={Set.univ}=> bigSep Finset.univ fun x : CX => iprop(∃ κ : ℕ, cellInv ER (rowsRd m ρ) κ (kcell (c, x))) : sProp 𝕄) from by
        rw [← bigSep_sep']
        exact (bigSep_mono fun x _ => (Rounds.body_intro ER (rowsRd m ρ) (kcell (c, x))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-! ## Tokens to the payers -/

theorem over_devs (l : List (Fin 32)) (Φ : Dev nD → Fin 32 → sProp 𝕄) :
    (bigSep Finset.univ fun c : Dev nD => bigSepL l (Φ c)) = bigSepL l fun d => bigSep Finset.univ fun c : Dev nD => Φ c d := by
  induction l with
  | nil => simp only [bigSepL_nil]; exact bigSep_emp_const _
  | cons d l ih => simp only [bigSepL_cons', bigSep_sep']; rw [ih]
/-- What every device has at each distance, every device has of the device at that distance. -/
theorem across (l : List (Fin 32)) (Φ : Dev nD → Fin 32 → sProp 𝕄) :
    (bigSep Finset.univ fun c : Dev nD => bigSepL l (Φ c)) = bigSep Finset.univ fun c : Dev nD => bigSepL l fun d => Φ (peer c d) d := by
  rw [over_devs, over_devs]
  exact congrArg _ (funext fun d => bigSep_univ_equiv (after d) fun c => Φ c d)

/-- A device's own tokens, without those of no duty. -/
def usedToks (c : Dev nD) : sProp 𝕄 :=
  iprop((bigSepL far fun d => dutyTok ER (barCell c) 0 (opp d))
    ∗ (bigSepL far fun d => dutyTok ER (dmaCell 0 c d) 0 0) ∗ (bigSepL far fun d => dutyTok ER (dmaCell 1 c d) 0 0)
    ∗ (bigSepL far fun d => dutyTok ER (dmaCell 2 c d) 0 0) ∗ bigSepL far fun d => dutyTok ER (dmaCell 3 c d) 0 0)
theorem toks_used (c : Dev nD) : (toks c : sProp 𝕄) ⊢ usedToks c := by
  unfold toks usedToks
  rw [sep_zero, sep_own, sep_far_opp]
  iintro ⟨⟨-, HB⟩, ⟨-, H0⟩, ⟨-, H1⟩, ⟨-, H2⟩, -, H3⟩
  isplitl [HB]; · iexact HB
  isplitl [H0]; · iexact H0
  isplitl [H1]; · iexact H1
  isplitl [H2] <;> iassumption

theorem used_around : (bigSep Finset.univ fun c : Dev nD => (usedToks c : sProp 𝕄)) = bigSep Finset.univ fun c : Dev nD => payToks c := by
  unfold usedToks payToks copyToks
  simp only [far_sep, bigSep_sep']
  rw [across far fun c d => dutyTok ER (barCell c) 0 (opp d), across far fun c d => dutyTok ER (dmaCell 1 c d) 0 0,
    across far fun c d => dutyTok ER (dmaCell 3 c d) 0 0]
theorem toks_around : (bigSep Finset.univ fun c : Dev nD => (toks c : sProp 𝕄)) ⊢ bigSep Finset.univ fun c : Dev nD => payToks c := by
  rw [← used_around]; exact bigSep_mono fun c _ => toks_used c

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem gather :
    (bigSep Finset.univ fun c : Dev nD => iprop((bigSep Finset.univ fun x : CX => iprop(∃ κ : ℕ, cellInv ER (rowsRd m ρ) κ (kcell (c, x))))
          ∗ (bigSep Finset.univ fun x : CX => reached ER (kcell (c, x)) 0)
          ∗ (bigSep Finset.univ fun x : CX => atPos ER (kcell (c, x)) 0 ∅ 0) ∗ toks c) : sProp 𝕄)
      ⊢ bigSep Finset.univ (held m ρ) := by
  simp only [bigSep_sep']
  rw [← bigSep_univ_prod (fun ck : Dev nD × CX => iprop(∃ κ : ℕ, cellInv ER (rowsRd m ρ) κ (kcell ck))),
    ← bigSep_univ_prod (fun ck : Dev nD × CX => (reached ER (kcell ck) 0 : sProp 𝕄))]
  iintro ⟨HI, HR, Hat, Htok⟩
  ihave HK := (BI.bigSep_exists_pi Finset.univ (fun (ck : Dev nD × CX) (κ : ℕ) => (cellInv ER (rowsRd m ρ) κ (kcell ck) : sProp 𝕄))) $$ HI
  icases HK with ⟨%K, HI⟩
  ihave Htk := (toks_around (F := F)) $$ Htok
  ihave Hrec := (show iprop((bigSep Finset.univ fun ck : Dev nD × CX => cellInv ER (rowsRd m ρ) (K ck) (kcell ck))
      ∗ bigSep Finset.univ fun ck : Dev nD × CX => reached ER (kcell ck) 0) ⊢ (records m ρ K : sProp 𝕄) from by
    unfold records; rw [bigSep_sep']) $$ [HI HR]
  · isplitl [HI] <;> iassumption
  ihave Hlin := (show iprop((bigSep Finset.univ fun c : Dev nD => bigSep Finset.univ fun x : CX => atPos ER (kcell (c, x)) 0 ∅ 0)
      ∗ bigSep Finset.univ fun c : Dev nD => payToks c) ⊢ (bigSep Finset.univ fun c : Dev nD => linear c : sProp 𝕄) from by
    unfold linear; rw [bigSep_sep']) $$ [Hat Htk]
  · isplitl [Hat] <;> iassumption
  iapply (with_records (R := records m ρ K) (Φ := fun c : Dev nD => linear c) (Ψ := held m ρ) fun c _ => by
    unfold held
    iintro H
    iexists K; iexact H)
  isplitl [Hrec] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (held m ρ) :=
  ((bigSep_mono fun c _ => core_alloc m ρ c).trans (bigSep_fupd _ _)).trans (BI.fupd_mono (gather m ρ))

/-! ## The credits -/

/-- Every device owing a tally at the device at distance `e` of it, each device is dealt the credit. -/
theorem credit_from (x : CX) (e : Fin 32) (n : ℕ) (c : Dev nD) :
    (Pipeline.launchCred (fun d : Dev nD => tallyAt (kcell (peer d e, x)) () n) c : sProp 𝕄) ⊢ cred (tallyAt (kcell (c, x)) () n) :=
  Pipeline.launchCred_tallyAt (csem x) (fun d => peer d e) (fun d => back d e) (fun c => peer_back c e) (fun c => back_peer c e) () n c

theorem send_credits (c : Dev nD) : ∀ ds : List (Fin 32),
    (Pipeline.launchCred (fun d : Dev nD => sendO d ds) c : sProp 𝕄)
      ⊢ iprop((bigSepL ds fun d => cred (tallyAt (dmaCell 1 c d) () NY)) ∗ bigSepL ds fun d => cred (tallyAt (dmaCell 3 c d) () NA))
  | [] => by
    iintro -
    simp only [bigSepL_nil]
    isplitl <;> iempintro
  | e :: ds => by
    rw [bigSepL_cons', bigSepL_cons']
    rw [show (fun d : Dev nD => sendO d (e :: ds))
        = fun d => (fun d => sendO d ds + tallyAt (dmaCell 3 (peer d e) e) () NA) d + tallyAt (dmaCell 1 (peer d e) e) () NY from rfl,
      Pipeline.launchCred_add, Pipeline.launchCred_add]
    iintro ⟨⟨H, H3⟩, H1⟩
    ihave H := (send_credits c ds) $$ H
    icases H with ⟨Hs1, Hs3⟩
    isplitl [H1 Hs1]
    · isplitl [H1]; · iapply (credit_from (some (1, e)) e NY c); iexact H1
      iexact Hs1
    isplitl [H3]; · iapply (credit_from (some (3, e)) e NA c); iexact H3
    iexact Hs3

theorem all_credits (c : Dev nD) : ∀ ds : List (Fin 32),
    (Pipeline.launchCred (fun d : Dev nD => sigO d ds) c : sProp 𝕄)
      ⊢ iprop(cred (tallyAt (barCell c) () ds.length) ∗ (bigSepL far fun d => cred (tallyAt (dmaCell 1 c d) () NY))
        ∗ bigSepL far fun d => cred (tallyAt (dmaCell 3 c d) () NA))
  | [] => by
    rw [show (fun d : Dev nD => sigO d []) = fun d => sendO d far from rfl]
    iintro H
    ihave H := (send_credits c far) $$ H
    isplitr
    · rw [List.length_nil, tallyAt_zero, cred_zero]; iempintro
    iexact H
  | e :: ds => by
    rw [show (fun d : Dev nD => sigO d (e :: ds)) = fun d => sigO d ds + tallyAt (barCell (peer d e)) () 1 from rfl,
      Pipeline.launchCred_add, List.length_cons, ← tallyAt_add]
    iintro ⟨H, H1⟩
    ihave H := (all_credits c ds) $$ H
    icases H with ⟨Hb, Hr⟩
    isplitr [Hr]
    · iapply (cred_add _ _).mpr
      isplitl [Hb]; · iexact Hb
      iapply (credit_from none e 1 c); iexact H1
    iexact Hr

theorem creds (c : Dev nD) : (Pipeline.launchCred O₀ c : sProp 𝕄) ⊢ credits c := all_credits c far

end Cert.RowsProof

end
-- ==== Proof.ProgEq.lean ====
/-
# The printed body is the loops

By unfolding both. On its own, since it is the longest check of the proof.
-/
module

public import proofs.«01_k».proof.Proof.Prog

@[expose] public section

noncomputable section

namespace Cert.RowsProof

open Cert.KernelIdeal Cert.KernelIdeal.Gen
open Idealize.ShloMosaic Idealize.ShloMosaic.TcCoe
open Idealize.SL Idealize.SL.Sem

variable {F : FTy → Type} [FloatOps F]

set_option maxRecDepth 65536 in
set_option maxHeartbeats 4000000 in
/-- The printed body is these loops. -/
theorem bodyAt_eq (t : Fin cfg0.N) : bodyAt0 (F := F) t = prog := rfl

end Cert.RowsProof

end
-- ==== Proof.Run.lean ====
/-
# The run

The body obligation of the launch, and the launch theorem applied: every execution terminates with every counter at
zero and with every window's array at the contents the proof data name.
-/
module

public import proofs.«01_k».proof.Proof.Deal
public import proofs.«01_k».proof.Proof.ProgEq
public import Idealize.ShloMosaic.Lib.Pipeline.CollectiveSegs

@[expose] public section

noncomputable section

namespace Cert.RowsProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation -/

theorem owns_buf (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-- At the point, before the body: -/
def pointPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
/-- and after it. -/
def pointPost (c : Dev nD) : sProp 𝕄 :=
  iprop(Φ₁ c ∗ (dats m ρ 0 c).owesAt () t0_0.succ
    ∗ stg c cc0_stg0_0 (xstg m ρ c) ∗ stg c cc0_stg1_0 (wstg m ρ c) ∗ stg c cc0_stg2_0 (outAt m ρ c))

theorem before_x (c : Dev nD) (d) : (dats m ρ 0 c).before (0 : Fin 3) t0_0 d = xstg m ρ c := by
  unfold Dat.before; rw [if_pos (fetch0_0 t0_0)]; rfl
theorem before_w (c : Dev nD) (d) : (dats m ρ 0 c).before (1 : Fin 3) t0_0 d = wstg m ρ c := by
  unfold Dat.before; rw [if_pos (fetch0_1 t0_0)]; rfl

theorem point_wp (c : Dev nD) : pointPre m ρ c ⊢ wpc c (prog (F := F)) fun _ => pointPost m ρ c := by
  unfold pointPre Φ₀ start
  iintro ⟨⟨⟨⟨%K, Hrec, Hlin⟩, Hcr, Hlev⟩, Hscr⟩, Ho, ⟨%d0, %g0, %h0, Hx⟩, ⟨%d1, %g1, %h1, Hw⟩, ⟨%d2, %g2, %h2, Hout⟩⟩
  rw [before_x] at h0
  rw [before_w] at h1
  subst h0; subst h1
  unfold Dat.owesAt Pipeline.owesWithin
  icases Ho with ⟨%W, %hW, HO⟩
  rw [show (dats m ρ 0 c).owed t0_0.castSucc = O₀ c from rfl]
  iapply (body_wp m ρ K c fun _ => pointPost m ρ c)
  isplitr []
  · unfold bodyPre
    isplitl [Hrec Hlin Hcr Hlev]
    · isplitl [Hrec]; · iexact Hrec
      isplitl [Hlin]; · iexact Hlin
      isplitl [Hcr] <;> iassumption
    isplitl [Hscr]; · iexact Hscr
    isplitl [HO]; · unfold Owes; iexists W; iexact HO
    unfold buf
    isplitl [Hx]; · iexact Hx
    isplitl [Hw]; · iexact Hw
    iexists g2; iexact Hout
  · unfold bodyPost pointPost Owes buf Dat.owesAt Pipeline.owesWithin
    rw [show (dats m ρ 0 c).owed t0_0.succ = 0 from rfl]
    iintro ⟨HΦ, ⟨%W', HO⟩, Hx, Hw, Ho⟩
    isplitl [HΦ]; · iexact HΦ
    isplitl [HO]
    · iexists W'
      isplitr; · ipureintro; exact fun _ _ => Or.inl trivial
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Ho

set_option maxRecDepth 65536 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_buf]
  show pointPre m ρ c ⊢ wpc c (bodyAt0 (F := F) t0_0) fun _ => pointPost m ρ c
  rw [bodyAt_eq]
  exact point_wp m ρ c

/-! ## The launch -/

theorem ownSemFacts : Pipeline.OwnSemFacts cfg0.spec osem where
  isScoped := by decide +kernel
  inj := osem_inj
  disj k w s h := by
    have h1 := congrArg Fin.val (SemLoc.dma.inj h)
    rw [dmaS_val] at h1
    have h2 : ∀ (w : Fin 3) (s : Fin (spec0 w).nbuf), ((spec0 w).sem s).val < 3 := by decide
    have := h2 w s
    have h3 : ((cfg0.spec w).sem s).val = ((spec0 w).sem s).val := rfl
    omega

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m ρ c)
      ⊢ |={Set.univ}=> iprop(start m ρ c ∗ emp) := by
  iintro ⟨-, Hlev, Hcr, -, HG⟩
  ihave Hc := (creds (F := F) c) $$ Hcr
  imodintro
  unfold start held
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buf
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, own_zeros, unscoped_bar]
  unfold Φ₁ buf
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- The array of window `w` after the run. -/
def finalA (c : Dev nD) (w : Fin cfg0.W) : Buf (Elt F) ((cfg0.win w).arr.view.loc (c : Thread nD τ)) := (dats m ρ 0 c).arrAt w cfg0.N

set_option maxRecDepth 65536 in
/-- From any memory with zero counters, over any float values: every weakly fair execution of @main terminates, every
    window's array is as the proof data say, and every counter is at zero. -/
theorem run_main : θ_run defs (onTc (τ := τ) (main (F := F))) (s₀ m ρ) (fun r =>
    (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m ρ) (G' := held m ρ) (u₀ := u₀)
    (hu₀ := by
      unfold u₀
      iintro Hu
      ihave H := (ownU_pair _ _) $$ Hu
      icases H with ⟨HP, HX⟩
      imod (fund_rows m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RowsProof

end
-- ==== Proof.Final.lean ====
/-
# The arrays after the run

The windows are the whole arrays, so what is fetched is the argument and what is flushed is the result. The two frames
and the value of the result follow from the run.
-/
module

public import proofs.«01_k».proof.Proof.Run
public import Idealize.ShloMosaic.Lib.Pipeline.Value
public import proofs.«01_k».proof.Defs
public import proofs.«01_k».proof.Proof.Gen.Kernel

@[expose] public section

noncomputable section

namespace Cert.RowsProof

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem emb_x (t : Fin grid0.N) (i : S128x4096.Idx) : (win0_0.blk t).view.emb i = i :=
  funext fun a => Fin.ext (by
    show 0 * S128x4096.size a + 1 * (i a).val = (i a).val
    rw [Nat.zero_mul, Nat.zero_add, Nat.one_mul])
theorem emb_w (t : Fin grid0.N) (i : S4096x2048.Idx) : (win0_1.blk t).view.emb i = i :=
  funext fun a => Fin.ext (by
    show 0 * S4096x2048.size a + 1 * (i a).val = (i a).val
    rw [Nat.zero_mul, Nat.zero_add, Nat.one_mul])
theorem emb_o (t : Fin grid0.N) (i : S4096x64.Idx) : (win0_2.blk t).view.emb i = i :=
  funext fun a => Fin.ext (by
    show 0 * S4096x64.size a + 1 * (i a).val = (i a).val
    rw [Nat.zero_mul, Nat.zero_add, Nat.one_mul])

/-- What a device multiplies is its block of the first argument and the second. -/
theorem xstg_eq (c : Dev nD) : xstg m ρ c = m ((c : Thread nD τ).loc main_arg0) :=
  funext fun i => congrArg (m ((c : Thread nD τ).loc main_arg0)) (emb_x (0 : Fin 1) i)
theorem wstg_eq (c : Dev nD) : wstg m ρ c = m ((c : Thread nD τ).loc main_arg1) :=
  funext fun i => congrArg (m ((c : Thread nD τ).loc main_arg1)) (emb_w (0 : Fin 1) i)

/-- The result array ends at the staged output. -/
theorem final_out (c : Dev nD) : finalA m ρ c (2 : Fin 3) = outAt m ρ c :=
  (dats m ρ 0 c).arrAt_eq_of_cover (2 : Fin 3) (outAt m ρ c)
    (fun t _ => funext fun i => (congrArg (outAt m ρ c) (emb_o t i)).symm)
    (fun i => ⟨t0_0, flush0_2 t0_0, Finset.mem_map.mpr ⟨i, Finset.mem_univ _, emb_o t0_0 i⟩⟩)

/-- Every execution terminates with every counter at zero, the arguments as they were and the result at the staged output. -/
theorem run_all : θ_run defs (onTc (τ := τ) (main (F := F))) (s₀ m ρ) (fun r =>
    (∀ c : Dev nD, r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m ρ c),
      (h.1 c (0 : Fin 3)).trans ((dats m ρ 0 c).arrAt_in (0 : Fin 3) rfl _),
      (h.1 c (1 : Fin 3)).trans ((dats m ρ 0 c).arrAt_in (1 : Fin 3) rfl _)⟩, h.2⟩) (run_main m ρ)

/-- The run with the values dropped. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => (h.1 c).2, h.2⟩) (run_all m ρ)

/-- The frame of the kernel's idealization. -/
theorem frame_ideal : Cert.quiescent_KernelIdeal := fun m ρ _ => run_frame (F := Ideal) m ρ

section Same
set_option maxRecDepth 65536
set_option maxHeartbeats 4000000

/-- The kernel's body table is its idealization's, -/
theorem defs₀_same : (Cert.Kernel.defs₀ (F := Bits)) = Cert.KernelIdeal.defs₀ (F := Bits) := by
  funext κ l a
  cases κ with
  | tc =>
    obtain ⟨l, hl⟩ := l
    cases l with
    | zero => obtain ⟨t, s⟩ := a; rfl
    | succ n => exact absurd hl (by omega)
  | scScalar _ => rfl
  | scVector _ _ => rfl
/-- so its table is. -/
theorem defs_same : (Cert.Kernel.defs (F := Bits)) = Cert.KernelIdeal.defs (F := Bits) :=
  congrArg (Idealize.ShloMosaic.Pipeline.defs Cert.KernelIdeal.pcfgs) defs₀_same

/-- The frame of the kernel itself: the same text over words. -/
theorem frame_kernel : Cert.quiescent_Kernel := fun m ρ _ => by
  rw [defs_same]
  exact run_frame (F := Bits) m ρ

end Same

end Cert.RowsProof

end
-- ==== Proof.Maths.lean ====
/-
# The mathematics

Over the extended reals: a product's entry, the maximum of an array as a supremum, and the quantisation of one entry at a
scale. The kernel's values and the reference's are read in these terms.
-/
module

public import proofs.«01_k».proof.Proof.Sched
public import proofs.«01_k».proof.ReferenceIdeal
public import proofs.«01_k».proof.Proof.Gen.ReferenceIdeal
public import Idealize.ShloMosaic.Lib.Pipeline.Value
public import Idealize.ShloMosaic.Lib.MatmulPlain
public import Idealize.ShloMosaic.Lib.StackMember
public import Idealize.ShloMosaic.Lib.Layout
public import Idealize.ShloMosaic.Lib.ValueLayout
public import Idealize.ShloMosaic.PureOps.Ideal.Laws

@[expose] public section

noncomputable section

namespace Cert.RowsProof.Maths

open Idealize.ShloMosaic
open Idealize.ShloMosaic.ValueIdx Idealize.ShloMosaic.StackMember
open scoped BigOperators

/-! ## Entries, maxima, quantisation -/

/-- The positive part of the entry of `x · w` at row `r`, column `c`. -/
def entry {M : ℕ} (x : (⟨2, ![M, 4096]⟩ : Shape).Idx → EReal) (w : (⟨2, ![4096, 2048]⟩ : Shape).Idx → EReal)
    (r : Fin M) (c : Fin 2048) : EReal := max (∑ k : Fin 4096, x (ix2 r k) * w (ix2 k c)) 0
/-- The array of those entries. -/
def entries {M : ℕ} (x : (⟨2, ![M, 4096]⟩ : Shape).Idx → EReal) (w : (⟨2, ![4096, 2048]⟩ : Shape).Idx → EReal) :
    (⟨2, ![M, 2048]⟩ : Shape).Idx → EReal := fun i => entry x w (i 0) (i 1)

/-- The scale for a maximum `a`: a 127th of it. -/
def scale (a : EReal) : EReal := Ideal.div a (Ideal.ofBits .f32 0x42FE0000#32)
/-- The value nearest `y` among the multiples of `s` by the integers from -127 to 127. -/
def quant (s y : EReal) : EReal :=
  min (Ideal.ofBits .f32 0x42FE0000#32)
    (max (Ideal.ofBits .f32 0xC2FE0000#32) (Ideal.liftRound Ideal.roundHalfEven (Ideal.div y s))) * s

theorem negInf : Ideal.ofBits .f32 0xFF800000#32 = (⊥ : EReal) := by simp [Ideal.ofBits, Ideal.ieee]

/-- A fold of `max` from the bottom over everything is the supremum. -/
theorem fold_max {ι : Type} [Fintype ι] (v : ι → EReal) :
    (Finset.univ : Finset ι).fold max (⊥ : EReal) v = ⨆ i, v i := by
  rw [← Finset.sup_univ_eq_iSup]; rfl

/-- A maximum over all axes, as a kernel takes it. -/
theorem kernel_max {s t : Shape} {axes : List (Fin s.rank)} (v : FVec Ideal s .f32) (h : s.Reduces axes t)
    (ht : ∀ b, t.size b = 1) (hφ : FKind.Formats .f32) (hacc : (0xFF800000#32 : BitVec 32) = FKind.maximumf.neutral .f32 hφ) (j : t.Idx) :
    multiReduction .maximumf axes t v 0xFF800000#32 h hφ hacc j = ⨆ i, v i := by
  rw [multiReduction_maximumf_eq_fold, Finset.filter_true_of_mem fun i _ => funext fun b => Fin.ext (by
    have := (h.drop i b).isLt; have := (j b).isLt; have := ht b; omega)]
  show Finset.univ.fold max (Ideal.ofBits .f32 0xFF800000#32) v = _
  rw [negInf, fold_max]
/-- The same as the host takes it. -/
theorem host_max {s t u : Shape} {axes : List (Fin s.rank)} (v : FVec Ideal s .f32) (h : s.ReducesTo axes t) (hu : 0 < u.numel)
    (ht : ∀ b, t.size b = 1) (j : t.Idx) :
    Host.reduce FloatOps.maximumf v (constant u .f32 0xFF800000#32) h hu j = ⨆ i, v i := by
  rw [Host.reduce_eq_fold, Finset.filter_true_of_mem fun i _ => funext fun b => Fin.ext (by
    have := (h.drop i b).isLt; have := (j b).isLt; have := ht b; omega)]
  show Finset.univ.fold max (Ideal.ofBits .f32 0xFF800000#32) v = _
  rw [negInf, fold_max]

/-- A reshape keeps the supremum. -/
theorem sup_cast {s t : Shape} (v : s.Idx → EReal) (h : s.ShapeCasts t) : (⨆ i, shapeCast t v h i) = ⨆ i, v i :=
  (Shape.reshapeEquiv h).iSup_comp (g := v)

/-- A value that is not negative is its own absolute value. -/
theorem abs_pos (a : EReal) : max (max a 0) (-(max a 0)) = max a 0 := by
  refine max_eq_left ?_
  have h : (0 : EReal) ≤ max a 0 := le_max_right _ _
  exact (EReal.neg_le_neg_iff.mpr h).trans (by rw [neg_zero]; exact h)

/-! ## The kernel's values -/

section Kernel
open Cert.KernelIdeal Cert.KernelIdeal.Gen

theorem pay_product (x : FVec Ideal S128x4096 .bf16) (w : FVec Ideal S4096x2048 .bf16) :
    k0_pay1 (F := Ideal) x w = entries x w := by
  funext i
  obtain ⟨r, c, rfl⟩ : ∃ (r : Fin 128) (c : Fin 2048), i = ix2 r c := ⟨i 0, i 1, eq_ix2 i⟩
  unfold k0_pay1
  rw [shapeCast_self, shapeCast_self]
  show max (FloatOps.matmul (DotDims.plain 128 4096 2048) none x w (constant S128x2048 .f32 0x00000000#32) (ix2 r c))
    (Ideal.ofBits .f32 0x00000000#32) = _
  rw [Ideal.matmul_plain_apply]
  show max (Ideal.ofBits .f32 0x00000000#32 + _) (Ideal.ofBits .f32 0x00000000#32) = _
  rw [Ideal.ofBits_zero_f32, zero_add]
  rfl

theorem pay_max (y : FVec Ideal S128x2048 .f32) (i : S1x8x128.Idx) : k0_pay36 (F := Ideal) y i = ⨆ j, (y j : EReal) := by
  have key : multiReduction .maximumf [1, 2] S1 (shapeCast S1x128x2048 y shapeCasts_S128x2048_S1x128x2048) 0xFF800000#32
      reduces_S1x128x2048_S1 (.inl rfl) rfl = fun _ => ⨆ j, (y j : EReal) := funext fun j =>
    (kernel_max _ _ (fun b => by fin_cases b; rfl) _ _ j).trans (sup_cast _ _)
  simp only [k0_pay36, key]
  rfl

theorem pay_scale (a : FVec Ideal S32x8x128 .f32) : k0_pay38 (F := Ideal) a = scale (⨆ j, (a j : EReal)) := by
  have key : multiReduction .maximumf [1, 2, 3] S1 (shapeCast S1x32x8x128 a shapeCasts_S32x8x128_S1x32x8x128) 0xFF800000#32
      reduces_S1x32x8x128_S1 (.inl rfl) rfl = fun _ => ⨆ j, (a j : EReal) := funext fun j =>
    (kernel_max _ _ (fun b => by fin_cases b; rfl) _ _ j).trans (sup_cast _ _)
  simp only [k0_pay38, key]
  rfl

theorem pay_quant (s : EReal) (v : FVec Ideal S1x128x64 .f32) (r : Fin 128) (l : Fin 64) :
    k0_pay40 (F := Ideal) s v (ix2 r l) = quant s (v (ix3 0 r l)) := by
  unfold k0_pay40
  show quant s (shapeCast S128x64 v shapeCasts_S1x128x64_S128x64 (ix2 r l)) = _
  rw [shapeCast_1ab_ab_apply v shapeCasts_S1x128x64_S128x64 r l]

theorem cols_apply (y : FVec Ideal S128x2048 .f32) (p : Fin 32) (r : Fin 128) (l : Fin 64) :
    colsOf (F := Ideal) y p (ix3 0 r l) = y (ix2 r ⟨64 * p.val + l.val, by have := p.isLt; have := l.isLt; omega⟩) := by
  unfold colsOf
  rw [shapeCast_ab_1ab_apply _ shapeCasts_S128x64_S1x128x64 0 r l]
  exact extractStridedSlice_apply _ _ _ _ _ fun a => by
    fin_cases a
    · exact (Nat.zero_add _).symm
    · rfl

end Kernel

/-! ## The reference's value -/

section Reference
open Cert.ReferenceIdeal Cert.ReferenceIdeal.Gen

/-- The reference: every entry of the product quantised at the scale of the largest. -/
def result (x : S4096x4096.Idx → EReal) (w : S4096x2048.Idx → EReal) : S4096x2048.Idx → EReal :=
  fun i => quant (scale (⨆ j, entries x w j)) (entries x w i)

theorem ref_product (x : FVec Ideal S4096x4096 .bf16) (w : FVec Ideal S4096x2048 .bf16) :
    (maximumf (extf .f32 (truncf .bf16 (Host.dotGeneral dot_S4096x4096_S4096x2048_S4096x2048_1_0_0_1_n_n none x w) bitsLt_bf16_f32) bitsLt_bf16_f32)
      (broadcastInDim S4096x2048 ![] bcast_S_S4096x2048 (constant S_ .f32 0x00000000#32)) : FVec Ideal S4096x2048 .f32) = entries x w := by
  funext i
  obtain ⟨r, c, rfl⟩ : ∃ (r : Fin 4096) (c : Fin 2048), i = ix2 r c := ⟨i 0, i 1, eq_ix2 i⟩
  show max (Host.dotGeneral (F := Ideal) (DotDims.plain 4096 4096 2048) none x w (ix2 r c)) (Ideal.ofBits .f32 0x00000000#32) = _
  rw [dotGeneral_plain_apply, Ideal.ofBits_zero_f32]
  rfl

theorem ref_abs (x : FVec Ideal S4096x4096 .bf16) (w : FVec Ideal S4096x2048 .bf16) :
    (Host.absf (F := Ideal) (φ := .f32) (entries x w)) = entries x w :=
  funext fun i => abs_pos _

/-- The term the reference leaves, read so. -/
theorem ref_result (x : FVec Ideal S4096x4096 .bf16) (w : FVec Ideal S4096x2048 .bf16) (y : FVec Ideal S4096x2048 .f32)
    (hy : y = entries x w) :
    mulf (minimumf (broadcastInDim S4096x2048 ![] bcast_S_S4096x2048 (id (constant (F := Ideal) S_ .f32 0x42FE0000#32)))
      (maximumf (broadcastInDim S4096x2048 ![] bcast_S_S4096x2048 (id (constant (F := Ideal) S_ .f32 0xC2FE0000#32)))
        (Host.roundeven (Host.divf y (broadcastInDim S4096x2048 ![] bcast_S_S4096x2048
          (Host.divf (Host.reduce FloatOps.maximumf (Host.absf y) (constant S_ .f32 0xFF800000#32) reducesTo_S4096x2048_S_d0_1 h_S_)
            (constant S_ .f32 0x42FE0000#32)))))))
      (broadcastInDim S4096x2048 ![] bcast_S_S4096x2048
        (Host.divf (Host.reduce FloatOps.maximumf (Host.absf y) (constant S_ .f32 0xFF800000#32) reducesTo_S4096x2048_S_d0_1 h_S_)
          (constant S_ .f32 0x42FE0000#32))) = (result x w : FVec Ideal S4096x2048 .f32) := by
  subst hy
  have key : Host.reduce (FloatOps.maximumf (F := Ideal) (φ := .f32)) (entries x w) (constant (F := Ideal) S_ .f32 0xFF800000#32)
      reducesTo_S4096x2048_S_d0_1 h_S_ = fun _ => ⨆ j, (entries x w j : EReal) :=
    funext fun j => host_max (entries x w) reducesTo_S4096x2048_S_d0_1 h_S_ (fun b => b.elim0) j
  rw [ref_abs, key]
  rfl

end Reference

end Cert.RowsProof.Maths

end
-- ==== Proof.Equation.lean ====
/-
# The equation

What the kernel leaves on a device is the device's columns of what the reference leaves: the products are the reference's
rows, the scale is one for the whole array, and the quantisation of an entry is the same.
-/
module

public import proofs.«01_k».proof.Proof.Final
public import proofs.«01_k».proof.Proof.Maths

@[expose] public section

noncomputable section

namespace Cert.RowsProof

open Cert.KernelIdeal Cert.KernelIdeal.Gen
open Idealize.ShloMosaic Idealize.ShloMosaic.TcCoe
open Idealize.ShloMosaic.ValueIdx
open Idealize.SL Idealize.SL.Sem
open Cert.RowsProof.Maths
open scoped BigOperators

/-- The rows of the whole array that device `c` holds. -/
def rowAt (c : Fin 32) (r : Fin 128) : Fin 4096 := ⟨c.val * 128 + r.val, by have := c.isLt; have := r.isLt; omega⟩

/-- A device's product is its rows of the whole product. -/
theorem entries_block (X : (⟨2, ![4096, 4096]⟩ : Shape).Idx → EReal) (W : (⟨2, ![4096, 2048]⟩ : Shape).Idx → EReal)
    (c : Fin 32) (r : Fin 128) (l : Fin 2048) :
    entries (Layout.block ⟨2, ![128, 4096]⟩ ⟨2, ![4096, 4096]⟩ 0 32 c X) W (ix2 r l) = entries X W (ix2 (rowAt c r) l) := by
  show max (∑ k : Fin 4096, X (Layout.Tiles.idx _ c (ix2 r k)) * W (ix2 k l)) 0 = max (∑ k : Fin 4096, X (ix2 (rowAt c r) k) * W (ix2 k l)) 0
  refine congrArg (max · 0) (Finset.sum_congr rfl fun k _ => congrArg (fun i => X i * W (ix2 k l)) ?_)
  funext a
  fin_cases a <;> rfl

/-- The largest of the devices' largest entries is the largest entry. -/
theorem sup_rows (v : (⟨2, ![4096, 2048]⟩ : Shape).Idx → EReal) :
    (⨆ c : Fin 32, ⨆ j : (⟨2, ![128, 2048]⟩ : Shape).Idx, v (ix2 (rowAt c (j 0)) (j 1))) = ⨆ i, v i := by
  refine le_antisymm (iSup_le fun c => iSup_le fun j => le_iSup v _) (iSup_le fun i => ?_)
  have h0 := (i 0).isLt
  change (i 0).val < 4096 at h0
  let c : Fin 32 := ⟨(i 0).val / 128, by omega⟩
  let r : Fin 128 := ⟨(i 0).val % 128, by omega⟩
  refine le_iSup_of_le c (le_iSup_of_le (ix2 r (i 1)) (le_of_eq (congrArg v ?_)))
  funext a
  fin_cases a
  · exact Fin.ext (show (i 0).val = (i 0).val / 128 * 128 + (i 0).val % 128 by omega)
  · rfl

section OnMesh
variable (m : (ℓ : Loc nD τ sig) → Buf (Elt Ideal) ℓ) (ρ : Dev nD → PrngReg)
variable (X : (⟨2, ![4096, 4096]⟩ : Shape).Idx → EReal) (W : (⟨2, ![4096, 2048]⟩ : Shape).Idx → EReal)
variable (hX : ∀ c : Dev nD, m ((c : Thread nD τ).loc main_arg0) = Layout.block ⟨2, ![128, 4096]⟩ ⟨2, ![4096, 4096]⟩ 0 32 c X)
variable (hW : ∀ c : Dev nD, m ((c : Thread nD τ).loc main_arg1) = W)
include hX hW

theorem prod_apply (c : Dev nD) (r : Fin 128) (l : Fin 2048) :
    prodOf m ρ c (ix2 r l) = entries X W (ix2 (rowAt c r) l) := by
  unfold prodOf
  rw [xstg_eq, wstg_eq, hX, hW]
  exact (congrFun (pay_product _ _) _).trans (entries_block X W c r l)

theorem sup_prod (c : Dev nD) :
    (⨆ j, (prodOf m ρ c j : EReal)) = ⨆ j : (⟨2, ![128, 2048]⟩ : Shape).Idx, entries X W (ix2 (rowAt c (j 0)) (j 1)) :=
  iSup_congr fun j => (congrArg (prodOf m ρ c) (eq_ix2 j)).trans (prod_apply m ρ X W hX hW c (j 0) (j 1))

/-- Every device computes the one scale. -/
theorem scale_eq (c : Dev nD) : scaleOf m ρ c = scale (⨆ j, entries X W j) := by
  unfold scaleOf
  refine (pay_scale _).trans (congrArg scale ?_)
  have h : ∀ i, (stackA (landA m ρ c) i : EReal)
      = ⨆ j : (⟨2, ![128, 2048]⟩ : Shape).Idx, entries X W (ix2 (rowAt (back c (i 0)) (j 0)) (j 1)) := fun i =>
    (pay_max (prodOf m ρ (back c (i 0))) (inA i)).trans (sup_prod m ρ X W hX hW _)
  rw [iSup_congr h, ← sup_rows]
  refine le_antisymm (iSup_le fun i => le_iSup (fun c : Fin 32 => ⨆ j : (⟨2, ![128, 2048]⟩ : Shape).Idx,
    entries X W (ix2 (rowAt c (j 0)) (j 1))) (back c (i 0))) (iSup_le fun p => ?_)
  refine le_iSup_of_le (ix3 ((aback c).symm p) (0 : Fin 8) (0 : Fin 128)) (le_of_eq ?_)
  have hp : back c ((aback c).symm p) = p := (aback c).apply_symm_apply p
  show _ = ⨆ j : (⟨2, ![128, 2048]⟩ : Shape).Idx, entries X W (ix2 (rowAt (back c ((aback c).symm p)) (j 0)) (j 1))
  rw [hp]

/-- Device `c`'s result is its columns of the reference's. -/
theorem out_eq (c : Dev nD) :
    outAt m ρ c = Layout.block ⟨2, ![4096, 64]⟩ ⟨2, ![4096, 2048]⟩ 1 32 c (result X W) := by
  funext i
  have h0 := (i 0).isLt
  change (i 0).val < 4096 at h0
  show outB m ρ c ⟨(i 0).val / 128, rowBlock_lt i⟩ (inO i) = result X W (Layout.Tiles.idx _ c i)
  have hi : inO i = ix2 (⟨(i 0).val % 128, by omega⟩ : Fin 128) (i 1) := by
    funext a; fin_cases a <;> rfl
  rw [hi]
  refine (pay_quant _ _ _ _).trans ?_
  rw [scale_eq m ρ X W hX hW]
  refine congrArg (quant _) ?_
  refine (cols_apply _ _ _ _).trans ((prod_apply m ρ X W hX hW _ _ _).trans (congrArg (entries X W) ?_))
  funext a
  fin_cases a
  · exact Fin.ext (show (i 0).val / 128 * 128 + (i 0).val % 128 = (i 0).val by omega)
  · exact Fin.ext (show 64 * c.val + (i 1).val = c.val * 64 + (i 1).val by omega)

end OnMesh

end Cert.RowsProof

end
-- ==== Proof.lean ====
module

public import proofs.«01_k».proof.Defs
public import proofs.«01_k».proof.Proof.Equation
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe Idealize.SL.Sem

/-- The reference runs and leaves the arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two leave the same values: each device its columns of the reference's result. -/
theorem value : Cert.algebraic_KernelIdeal_ReferenceIdeal := fun m ρ m' ρ' _ h =>
  ⟨Cert.RowsProof.Maths.result (m' ((0 : Dev Cert.ReferenceIdeal.nD).tc.loc Cert.ReferenceIdeal.main_arg0))
      (m' ((0 : Dev Cert.ReferenceIdeal.nD).tc.loc Cert.ReferenceIdeal.main_arg1)),
    (θ_run Cert.KernelIdeal.defs _ _).mono (fun _ hr c => ⟨(hr.1 c).1.trans
        (Cert.RowsProof.out_eq m ρ _ _ (fun c => (h c).1) (fun c => (h c).2) c), (hr.1 c).2⟩)
      (Cert.RowsProof.run_all (F := Ideal) m ρ),
    (θ_run Cert.ReferenceIdeal.defs _ _).mono (fun _ hr => ⟨(hr 0).1.trans
        (Cert.RowsProof.Maths.ref_result _ _ _ (Cert.RowsProof.Maths.ref_product _ _)), (hr 0).2⟩)
      (Cert.ReferenceIdeal.Value.run (F := Ideal) m' ρ')⟩

theorem claim : Cert.Claim := ⟨Cert.Kernel.Gen.facts, Cert.KernelIdeal.Gen.facts, Cert.ReferenceIdeal.Gen.facts,
  Cert.RowsProof.frame_kernel, Cert.RowsProof.frame_ideal, frame_reference, trivial, value⟩

end Cert.Proof

end
